-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x20x128 : Shape := ⟨3, ![10000, 20, 128]⟩
abbrev S10000x128 : Shape := ⟨2, ![10000, 128]⟩
abbrev S2x320000 : Shape := ⟨2, ![2, 320000]⟩
abbrev S512x128 : Shape := ⟨2, ![512, 128]⟩
abbrev S512 : Shape := ⟨1, ![512]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S1 : Shape := ⟨1, ![1]⟩
abbrev S1x512 : Shape := ⟨2, ![1, 512]⟩
abbrev S1000x20x128 : Shape := ⟨3, ![1000, 20, 128]⟩
abbrev S1000x128 : Shape := ⟨2, ![1000, 128]⟩
abbrev S1000x1x128 : Shape := ⟨3, ![1000, 1, 128]⟩
abbrev S1000x512 : Shape := ⟨2, ![1000, 512]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S320000x128 : Shape := ⟨2, ![320000, 128]⟩
abbrev S1000x1 : Shape := ⟨2, ![1000, 1]⟩
abbrev S1x1 : Shape := ⟨2, ![1, 1]⟩
abbrev S1000 : Shape := ⟨1, ![1000]⟩

abbrev nBuf : Space → Nat
  | .hbm => 105
  | .vmem => 68
  | .smem => 0
  | _ => 0

abbrev bufTy : (tb : Table) → Fin (tcTables nBuf tb) → BufTy
  | .hbm, ⟨0, _⟩ => ⟨S10000x20x128, .f32⟩
  | .hbm, ⟨1, _⟩ => ⟨S10000x128, .f32⟩
  | .hbm, ⟨2, _⟩ => ⟨S2x320000, .i32⟩
  | .hbm, ⟨3, _⟩ => ⟨S512x128, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128x256, .f32⟩
  | .hbm, ⟨16, _⟩ => ⟨S128, .f32⟩
  | .hbm, ⟨17, _⟩ => ⟨S1x128, .f32⟩
  | .hbm, ⟨18, _⟩ => ⟨S1, .f32⟩
  | .hbm, ⟨19, _⟩ => ⟨S512, .f32⟩
  | .hbm, ⟨20, _⟩ => ⟨S1x512, .f32⟩
  | .hbm, ⟨21, _⟩ => ⟨S10000x128, .f32⟩
  | .hbm, ⟨22, _⟩ => ⟨S1x128, .f32⟩
  | .hbm, ⟨23, _⟩ => ⟨S10000x128, .f32⟩
  | .hbm, ⟨24, _⟩ => ⟨S1x320000, .i32⟩
  | .hbm, ⟨25, _⟩ => ⟨S320000, .i32⟩
  | .hbm, ⟨26, _⟩ => ⟨S1x320000, .i32⟩
  | .hbm, ⟨27, _⟩ => ⟨S320000, .i32⟩
  | .hbm, ⟨28, _⟩ => ⟨S_, .f32⟩
  | .hbm, ⟨29, _⟩ => ⟨S320000, .f32⟩
  | .hbm, ⟨30, _⟩ => ⟨S_, .f32⟩
  | .hbm, ⟨31, _⟩ => ⟨S10000, .f32⟩
  | .hbm, ⟨32, _⟩ => ⟨S320000x1, .i32⟩
  | .hbm, ⟨33, _⟩ => ⟨S10000, .f32⟩
  | .hbm, ⟨34, _⟩ => ⟨S10000x1, .f32⟩
  | .hbm, ⟨35, _⟩ => ⟨S_, .f32⟩
  | .hbm, ⟨36, _⟩ => ⟨S10000, .f32⟩
  | .hbm, ⟨37, _⟩ => ⟨S320000x1, .i32⟩
  | .hbm, ⟨38, _⟩ => ⟨S10000, .f32⟩
  | .hbm, ⟨39, _⟩ => ⟨S10000x1, .f32⟩
  | .hbm, ⟨40, _⟩ => ⟨S_, .i32⟩
  | .hbm, ⟨41, _⟩ => ⟨S320000, .i32⟩
  | .hbm, ⟨42, _⟩ => ⟨S320000, .i1⟩
  | .hbm, ⟨43, _⟩ => ⟨S_, .i32⟩
  | .hbm, ⟨44, _⟩ => ⟨S320000, .i32⟩
  | .hbm, ⟨45, _⟩ => ⟨S320000, .i32⟩
  | .hbm, ⟨46, _⟩ => ⟨S320000, .i32⟩
  | .hbm, ⟨47, _⟩ => ⟨S320000x1, .i32⟩
  | .hbm, ⟨48, _⟩ => ⟨S320000x128, .f32⟩
  | .hbm, ⟨49, _⟩ => ⟨S_, .f32⟩
  | .hbm, ⟨50, _⟩ => ⟨S10000x128, .f32⟩
  | .hbm, ⟨51, _⟩ => ⟨S320000x1, .i32⟩
  | .hbm, ⟨52, _⟩ => ⟨S10000x128, .f32⟩
  | .hbm, ⟨53, _⟩ => ⟨S_, .i32⟩
  | .hbm, ⟨54, _⟩ => ⟨S320000, .i32⟩
  | .hbm, ⟨55, _⟩ => ⟨S320000, .i1⟩
  | .hbm, ⟨56, _⟩ => ⟨S_, .i32⟩
  | .hbm, ⟨57, _⟩ => ⟨S320000, .i32⟩
  | .hbm, ⟨58, _⟩ => ⟨S320000, .i32⟩
  | .hbm, ⟨59, _⟩ => ⟨S320000, .i32⟩
  | .hbm, ⟨60, _⟩ => ⟨S320000x1, .i32⟩
  | .hbm, ⟨61, _⟩ => ⟨S320000x128, .f32⟩
  | .hbm, ⟨62, _⟩ => ⟨S_, .f32⟩
  | .hbm, ⟨63, _⟩ => ⟨S10000x128, .f32⟩
  | .hbm, ⟨64, _⟩ => ⟨S320000x1, .i32⟩
  | .hbm, ⟨65, _⟩ => ⟨S10000x128, .f32⟩
  | .hbm, ⟨66, _⟩ => ⟨S1x128, .f32⟩
  | .hbm, ⟨67, _⟩ => ⟨S10000x128, .f32⟩
  | .hbm, ⟨68, _⟩ => ⟨S1x128, .f32⟩
  | .hbm, ⟨69, _⟩ => ⟨S10000x128, .f32⟩
  | .hbm, ⟨70, _⟩ => ⟨S_, .i32⟩
  | .hbm, ⟨71, _⟩ => ⟨S320000, .i32⟩
  | .hbm, ⟨72, _⟩ => ⟨S320000, .i1⟩
  | .hbm, ⟨73, _⟩ => ⟨S_, .i32⟩
  | .hbm, ⟨74, _⟩ => ⟨S320000, .i32⟩
  | .hbm, ⟨75, _⟩ => ⟨S320000, .i32⟩
  | .hbm, ⟨76, _⟩ => ⟨S320000, .i32⟩
  | .hbm, ⟨77, _⟩ => ⟨S320000x1, .i32⟩
  | .hbm, ⟨78, _⟩ => ⟨S320000x128, .f32⟩
  | .hbm, ⟨79, _⟩ => ⟨S_, .f32⟩
  | .hbm, ⟨80, _⟩ => ⟨S10000x128, .f32⟩
  | .hbm, ⟨81, _⟩ => ⟨S320000x1, .i32⟩
  | .hbm, ⟨82, _⟩ => ⟨S10000x128, .f32⟩
  | .hbm, ⟨83, _⟩ => ⟨S_, .i32⟩
  | .hbm, ⟨84, _⟩ => ⟨S320000, .i32⟩
  | .hbm, ⟨85, _⟩ => ⟨S320000, .i1⟩
  | .hbm, ⟨86, _⟩ => ⟨S_, .i32⟩
  | .hbm, ⟨87, _⟩ => ⟨S320000, .i32⟩
  | .hbm, ⟨88, _⟩ => ⟨S320000, .i32⟩
  | .hbm, ⟨89, _⟩ => ⟨S320000, .i32⟩
  | .hbm, ⟨90, _⟩ => ⟨S320000x1, .i32⟩
  | .hbm, ⟨91, _⟩ => ⟨S320000x128, .f32⟩
  | .hbm, ⟨92, _⟩ => ⟨S_, .f32⟩
  | .hbm, ⟨93, _⟩ => ⟨S10000x128, .f32⟩
  | .hbm, ⟨94, _⟩ => ⟨S320000x1, .i32⟩
  | .hbm, ⟨95, _⟩ => ⟨S10000x128, .f32⟩
  | .hbm, ⟨96, _⟩ => ⟨S1x128, .f32⟩
  | .hbm, ⟨97, _⟩ => ⟨S10000x128, .f32⟩
  | .hbm, ⟨98, _⟩ => ⟨S1x128, .f32⟩
  | .hbm, ⟨99, _⟩ => ⟨S10000x128, .f32⟩
  | .hbm, ⟨100, _⟩ => ⟨S1x128, .f32⟩
  | .hbm, ⟨101, _⟩ => ⟨S1x1, .f32⟩
  | .hbm, ⟨102, _⟩ => ⟨S128x128, .f32⟩
  | .hbm, ⟨103, _⟩ => ⟨S128x128, .f32⟩
  | .hbm, ⟨104, _⟩ => ⟨S10000x1, .f32⟩
  | .local _ .vmem, ⟨0, _⟩ => ⟨S1000x20x128, .f32⟩
  | .local _ .vmem, ⟨1, _⟩ => ⟨S1000x20x128, .f32⟩
  | .local _ .vmem, ⟨2, _⟩ => ⟨S512x128, .f32⟩
  | .local _ .vmem, ⟨3, _⟩ => ⟨S512x128, .f32⟩
  | .local _ .vmem, ⟨4, _⟩ => ⟨S1x512, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S128x128, .f32⟩
  | .local _ .vmem, ⟨10, _⟩ => ⟨S1x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x1, .f32⟩
  | .local _ .vmem, ⟨16, _⟩ => ⟨S1000x1, .f32⟩
  | .local _ .vmem, ⟨17, _⟩ => ⟨S1000x128, .f32⟩
  | .local _ .vmem, ⟨18, _⟩ => ⟨S1000x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S1000x1, .f32⟩
  | .local _ .vmem, ⟨27, _⟩ => ⟨S1000x1, .f32⟩
  | .local _ .vmem, ⟨28, _⟩ => ⟨S1000x128, .f32⟩
  | .local _ .vmem, ⟨29, _⟩ => ⟨S1000x128, .f32⟩
  | .local _ .vmem, ⟨30, _⟩ => ⟨S128x128, .f32⟩
  | .local _ .vmem, ⟨31, _⟩ => ⟨S128x128, .f32⟩
  | .local _ .vmem, ⟨32, _⟩ => ⟨S1x128, .f32⟩
  | .local _ .vmem, ⟨33, _⟩ => ⟨S1000x128, .f32⟩
  | .local _ .vmem, ⟨34, _⟩ => ⟨S1000x128, .f32⟩
  | .local _ .vmem, ⟨35, _⟩ => ⟨S1000x128, .f32⟩
  | .local _ .vmem, ⟨36, _⟩ => ⟨S1000x128, .f32⟩
  | .local _ .vmem, ⟨37, _⟩ => ⟨S1000x1, .f32⟩
  | .local _ .vmem, ⟨38, _⟩ => ⟨S1000x1, .f32⟩
  | .local _ .vmem, ⟨39, _⟩ => ⟨S1000x128, .f32⟩
  | .local _ .vmem, ⟨40, _⟩ => ⟨S1000x128, .f32⟩
  | .local _ .vmem, ⟨41, _⟩ => ⟨S128x128, .f32⟩
  | .local _ .vmem, ⟨42, _⟩ => ⟨S128x128, .f32⟩
  | .local _ .vmem, ⟨43, _⟩ => ⟨S1x128, .f32⟩
  | .local _ .vmem, ⟨44, _⟩ => ⟨S1000x128, .f32⟩
  | .local _ .vmem, ⟨45, _⟩ => ⟨S1000x128, .f32⟩
  | .local _ .vmem, ⟨46, _⟩ => ⟨S1000x128, .f32⟩
  | .local _ .vmem, ⟨47, _⟩ => ⟨S1000x128, .f32⟩
  | .local _ .vmem, ⟨48, _⟩ => ⟨S1000x1, .f32⟩
  | .local _ .vmem, ⟨49, _⟩ => ⟨S1000x1, .f32⟩
  | .local _ .vmem, ⟨50, _⟩ => ⟨S1000x128, .f32⟩
  | .local _ .vmem, ⟨51, _⟩ => ⟨S1000x128, .f32⟩
  | .local _ .vmem, ⟨52, _⟩ => ⟨S128x128, .f32⟩
  | .local _ .vmem, ⟨53, _⟩ => ⟨S128x128, .f32⟩
  | .local _ .vmem, ⟨54, _⟩ => ⟨S1x128, .f32⟩
  | .local _ .vmem, ⟨55, _⟩ => ⟨S1000x128, .f32⟩
  | .local _ .vmem, ⟨56, _⟩ => ⟨S1000x128, .f32⟩
  | .local _ .vmem, ⟨57, _⟩ => ⟨S1000x128, .f32⟩
  | .local _ .vmem, ⟨58, _⟩ => ⟨S1000x128, .f32⟩
  | .local _ .vmem, ⟨59, _⟩ => ⟨S1000x128, .f32⟩
  | .local _ .vmem, ⟨60, _⟩ => ⟨S1000x128, .f32⟩
  | .local _ .vmem, ⟨61, _⟩ => ⟨S128x128, .f32⟩
  | .local _ .vmem, ⟨62, _⟩ => ⟨S128x128, .f32⟩
  | .local _ .vmem, ⟨63, _⟩ => ⟨S1x128, .f32⟩
  | .local _ .vmem, ⟨64, _⟩ => ⟨S1x128, .f32⟩
  | .local _ .vmem, ⟨65, _⟩ => ⟨S1x1, .f32⟩
  | .local _ .vmem, ⟨66, _⟩ => ⟨S1000x1, .f32⟩
  | .local _ .vmem, ⟨67, _⟩ => ⟨S1000x1, .f32⟩
  | _, _ => ⟨S10000x20x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_4 : Ref sig .tc := ⟨.hbm, 53, rfl⟩
abbrev main_v28 : Ref sig .tc := ⟨.hbm, 54, rfl⟩
abbrev main_v29 : Ref sig .tc := ⟨.hbm, 55, rfl⟩
abbrev main_c_5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_7 : Ref sig .tc := ⟨.hbm, 70, rfl⟩
abbrev main_v42 : Ref sig .tc := ⟨.hbm, 71, rfl⟩
abbrev main_v43 : Ref sig .tc := ⟨.hbm, 72, rfl⟩
abbrev main_c_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_10 : Ref sig .tc := ⟨.hbm, 83, rfl⟩
abbrev main_v52 : Ref sig .tc := ⟨.hbm, 84, rfl⟩
abbrev main_v53 : Ref sig .tc := ⟨.hbm, 85, rfl⟩
abbrev main_c_11 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_12 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg6_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg6_0 : Ref sig .tc := ⟨.vmem, 55, rfl⟩
abbrev cc5_stg6_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg6_0 : Ref sig .tc := ⟨.vmem, 65, rfl⟩
abbrev cc6_stg7_0 : Ref sig .tc := ⟨.vmem, 66, rfl⟩
abbrev cc6_stg7_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem6_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem2_1 : DmaSem sig := 51
abbrev cc5_sem3_0 : DmaSem sig := 52
abbrev cc5_sem4_0 : DmaSem sig := 53
abbrev cc5_sem5_0 : DmaSem sig := 54
abbrev cc5_sem6_0 : DmaSem sig := 55
abbrev cc5_sem6_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem3_0 : DmaSem sig := 62
abbrev cc6_sem4_0 : DmaSem sig := 63
abbrev cc6_sem5_0 : DmaSem sig := 64
abbrev cc6_sem6_0 : DmaSem sig := 65
abbrev cc6_sem7_0 : DmaSem sig := 66
abbrev cc6_sem7_1 : DmaSem sig := 67

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x20x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S1000x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]
-- ==== ReferenceIdeal.lean ====
abbrev S10000x20x128 : Shape := ⟨3, ![10000, 20, 128]⟩
abbrev S10000x128 : Shape := ⟨2, ![10000, 128]⟩
abbrev S2x320000 : Shape := ⟨2, ![2, 320000]⟩
abbrev S512x128 : Shape := ⟨2, ![512, 128]⟩
abbrev S512 : Shape := ⟨1, ![512]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S1 : Shape := ⟨1, ![1]⟩
abbrev S20x10000x128 : Shape := ⟨3, ![20, 10000, 128]⟩
abbrev S_ : Shape := ⟨0, ![]⟩
abbrev S1x10000x128 : Shape := ⟨3, ![1, 10000, 128]⟩
abbrev S128x512 : Shape := ⟨2, ![128, 512]⟩
abbrev S10000x512 : Shape := ⟨2, ![10000, 512]⟩
abbrev S1x512 : Shape := ⟨2, ![1, 512]⟩
abbrev S1x320000 : Shape := ⟨2, ![1, 320000]⟩
abbrev S320000 : Shape := ⟨1, ![320000]⟩
abbrev S320000x1 : Shape := ⟨2, ![320000, 1]⟩
abbrev S320000x128 : Shape := ⟨2, ![320000, 128]⟩
abbrev S10000 : Shape := ⟨1, ![10000]⟩
abbrev S10000x1 : Shape := ⟨2, ![10000, 1]⟩
abbrev S10000x256 : Shape := ⟨2, ![10000, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 265
  | .vmem => 0
  | .smem => 0
  | _ => 0

abbrev hbmTy0_0 (i : Nat) : BufTy := match i % 128 with
  | 0 => ⟨S10000x20x128, .f32⟩
  | 1 => ⟨S10000x128, .f32⟩
  | 2 => ⟨S2x320000, .i32⟩
  | 3 => ⟨S512x128, .f32⟩
  | 4 => ⟨S512x128, .f32⟩
  | 5 => ⟨S512, .f32⟩
  | 6 => ⟨S512, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x256, .f32⟩
  | 16 => ⟨S128, .f32⟩
  | 17 => ⟨S1x128, .f32⟩
  | 18 => ⟨S1, .f32⟩
  | 19 => ⟨S20x10000x128, .f32⟩
  | 20 => ⟨S_, .f32⟩
  | 21 => ⟨S10000x128, .f32⟩
  | 22 => ⟨S_, .f32⟩
  | 23 => ⟨S10000x128, .f32⟩
  | 24 => ⟨S_, .i32⟩
  | 25 => ⟨S20x10000x128, .f32⟩
  | 26 => ⟨S512x128, .f32⟩
  | 27 => ⟨S512x128, .f32⟩
  | 28 => ⟨S512, .f32⟩
  | 29 => ⟨S512, .f32⟩
  | 30 => ⟨S_, .i32⟩
  | 31 => ⟨S10000x128, .f32⟩
  | 32 => ⟨S10000x128, .f32⟩
  | 33 => ⟨S_, .i32⟩
  | 34 => ⟨S_, .i1⟩
  | 35 => ⟨S_, .i32⟩
  | 36 => ⟨S_, .i32⟩
  | 37 => ⟨S1x10000x128, .f32⟩
  | 38 => ⟨S10000x128, .f32⟩
  | 39 => ⟨S128x512, .f32⟩
  | 40 => ⟨S10000x512, .f32⟩
  | 41 => ⟨S128x512, .f32⟩
  | 42 => ⟨S10000x512, .f32⟩
  | 43 => ⟨S10000x512, .f32⟩
  | 44 => ⟨S1x512, .f32⟩
  | 45 => ⟨S10000x512, .f32⟩
  | 46 => ⟨S10000x512, .f32⟩
  | 47 => ⟨S1x512, .f32⟩
  | 48 => ⟨S10000x512, .f32⟩
  | 49 => ⟨S10000x512, .f32⟩
  | 50 => ⟨S10000x128, .f32⟩
  | 51 => ⟨S10000x128, .f32⟩
  | 52 => ⟨S10000x128, .f32⟩
  | 53 => ⟨S10000x128, .f32⟩
  | 54 => ⟨S10000x128, .f32⟩
  | 55 => ⟨S10000x128, .f32⟩
  | 56 => ⟨S_, .f32⟩
  | 57 => ⟨S10000x128, .f32⟩
  | 58 => ⟨S10000x128, .f32⟩
  | 59 => ⟨S_, .f32⟩
  | 60 => ⟨S10000x128, .f32⟩
  | 61 => ⟨S10000x128, .f32⟩
  | 62 => ⟨S10000x128, .f32⟩
  | 63 => ⟨S10000x128, .f32⟩
  | 64 => ⟨S10000x128, .f32⟩
  | 65 => ⟨S_, .f32⟩
  | 66 => ⟨S10000x128, .f32⟩
  | 67 => ⟨S10000x128, .f32⟩
  | 68 => ⟨S_, .f32⟩
  | 69 => ⟨S10000x128, .f32⟩
  | 70 => ⟨S10000x128, .f32⟩
  | 71 => ⟨S10000x128, .f32⟩
  | 72 => ⟨S10000x128, .f32⟩
  | 73 => ⟨S10000x128, .f32⟩
  | 74 => ⟨S10000x128, .f32⟩
  | 75 => ⟨S10000x128, .f32⟩
  | 76 => ⟨S_, .f32⟩
  | 77 => ⟨S10000x128, .f32⟩
  | 78 => ⟨S10000x128, .f32⟩
  | 79 => ⟨S_, .f32⟩
  | 80 => ⟨S10000x128, .f32⟩
  | 81 => ⟨S10000x128, .f32⟩
  | 82 => ⟨S10000x128, .f32⟩
  | 83 => ⟨S10000x128, .f32⟩
  | 84 => ⟨S_, .i32⟩
  | 85 => ⟨S_, .i32⟩
  | 86 => ⟨S128x128, .f32⟩
  | 87 => ⟨S10000x128, .f32⟩
  | 88 => ⟨S1x128, .f32⟩
  | 89 => ⟨S10000x128, .f32⟩
  | 90 => ⟨S10000x128, .f32⟩
  | 91 => ⟨S1x320000, .i32⟩
  | 92 => ⟨S320000, .i32⟩
  | 93 => ⟨S1x320000, .i32⟩
  | 94 => ⟨S320000, .i32⟩
  | 95 => ⟨S_, .i32⟩
  | 96 => ⟨S320000, .i32⟩
  | 97 => ⟨S320000, .i1⟩
  | 98 => ⟨S_, .i32⟩
  | 99 => ⟨S320000, .i32⟩
  | 100 => ⟨S320000, .i32⟩
  | 101 => ⟨S320000, .i32⟩
  | 102 => ⟨S320000x1, .i32⟩
  | 103 => ⟨S320000x128, .f32⟩
  | 104 => ⟨S_, .f32⟩
  | 105 => ⟨S10000x128, .f32⟩
  | 106 => ⟨S320000x1, .i32⟩
  | 107 => ⟨S10000x128, .f32⟩
  | 108 => ⟨S_, .f32⟩
  | 109 => ⟨S320000, .f32⟩
  | 110 => ⟨S_, .f32⟩
  | 111 => ⟨S10000, .f32⟩
  | 112 => ⟨S320000x1, .i32⟩
  | 113 => ⟨S10000, .f32⟩
  | 114 => ⟨S_, .f32⟩
  | 115 => ⟨S_, .f32⟩
  | 116 => ⟨S10000, .f32⟩
  | 117 => ⟨S10000, .f32⟩
  | 118 => ⟨S10000x1, .f32⟩
  | 119 => ⟨S10000x128, .f32⟩
  | 120 => ⟨S10000x128, .f32⟩
  | 121 => ⟨S128x128, .f32⟩
  | 122 => ⟨S10000x128, .f32⟩
  | 123 => ⟨S1x128, .f32⟩
  | 124 => ⟨S10000x128, .f32⟩
  | 125 => ⟨S10000x128, .f32⟩
  | 126 => ⟨S128x128, .f32⟩
  | 127 => ⟨S10000x128, .f32⟩
  | _ => ⟨S10000x20x128, .f32⟩

abbrev hbmTy0_1 (i : Nat) : BufTy := match i % 128 with
  | 0 => ⟨S10000x128, .f32⟩
  | 1 => ⟨S_, .i32⟩
  | 2 => ⟨S320000, .i32⟩
  | 3 => ⟨S320000, .i1⟩
  | 4 => ⟨S_, .i32⟩
  | 5 => ⟨S320000, .i32⟩
  | 6 => ⟨S320000, .i32⟩
  | 7 => ⟨S320000, .i32⟩
  | 8 => ⟨S320000x1, .i32⟩
  | 9 => ⟨S320000x128, .f32⟩
  | 10 => ⟨S_, .f32⟩
  | 11 => ⟨S10000x128, .f32⟩
  | 12 => ⟨S320000x1, .i32⟩
  | 13 => ⟨S10000x128, .f32⟩
  | 14 => ⟨S_, .f32⟩
  | 15 => ⟨S320000, .f32⟩
  | 16 => ⟨S_, .f32⟩
  | 17 => ⟨S10000, .f32⟩
  | 18 => ⟨S320000x1, .i32⟩
  | 19 => ⟨S10000, .f32⟩
  | 20 => ⟨S_, .f32⟩
  | 21 => ⟨S_, .f32⟩
  | 22 => ⟨S10000, .f32⟩
  | 23 => ⟨S10000, .f32⟩
  | 24 => ⟨S10000x1, .f32⟩
  | 25 => ⟨S10000x128, .f32⟩
  | 26 => ⟨S10000x128, .f32⟩
  | 27 => ⟨S128x128, .f32⟩
  | 28 => ⟨S10000x128, .f32⟩
  | 29 => ⟨S1x128, .f32⟩
  | 30 => ⟨S10000x128, .f32⟩
  | 31 => ⟨S10000x128, .f32⟩
  | 32 => ⟨S128x128, .f32⟩
  | 33 => ⟨S10000x128, .f32⟩
  | 34 => ⟨S10000x128, .f32⟩
  | 35 => ⟨S_, .f32⟩
  | 36 => ⟨S10000x128, .f32⟩
  | 37 => ⟨S10000x128, .f32⟩
  | 38 => ⟨S_, .f32⟩
  | 39 => ⟨S10000x128, .f32⟩
  | 40 => ⟨S10000x128, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000x128, .f32⟩
  | 50 => ⟨S_, .f32⟩
  | 51 => ⟨S10000x128, .f32⟩
  | 52 => ⟨S320000x1, .i32⟩
  | 53 => ⟨S10000x128, .f32⟩
  | 54 => ⟨S_, .f32⟩
  | 55 => ⟨S320000, .f32⟩
  | 56 => ⟨S_, .f32⟩
  | 57 => ⟨S10000, .f32⟩
  | 58 => ⟨S320000x1, .i32⟩
  | 59 => ⟨S10000, .f32⟩
  | 60 => ⟨S_, .f32⟩
  | 61 => ⟨S_, .f32⟩
  | 62 => ⟨S10000, .f32⟩
  | 63 => ⟨S10000, .f32⟩
  | 64 => ⟨S10000x1, .f32⟩
  | 65 => ⟨S10000x128, .f32⟩
  | 66 => ⟨S10000x128, .f32⟩
  | 67 => ⟨S128x128, .f32⟩
  | 68 => ⟨S10000x128, .f32⟩
  | 69 => ⟨S1x128, .f32⟩
  | 70 => ⟨S10000x128, .f32⟩
  | 71 => ⟨S10000x128, .f32⟩
  | 72 => ⟨S128x128, .f32⟩
  | 73 => ⟨S10000x128, .f32⟩
  | 74 => ⟨S10000x128, .f32⟩
  | 75 => ⟨S_, .i32⟩
  | 76 => ⟨S320000, .i32⟩
  | 77 => ⟨S320000, .i1⟩
  | 78 => ⟨S_, .i32⟩
  | 79 => ⟨S320000, .i32⟩
  | 80 => ⟨S320000, .i32⟩
  | 81 => ⟨S320000, .i32⟩
  | 82 => ⟨S320000x1, .i32⟩
  | 83 => ⟨S320000x128, .f32⟩
  | 84 => ⟨S_, .f32⟩
  | 85 => ⟨S10000x128, .f32⟩
  | 86 => ⟨S320000x1, .i32⟩
  | 87 => ⟨S10000x128, .f32⟩
  | 88 => ⟨S_, .f32⟩
  | 89 => ⟨S320000, .f32⟩
  | 90 => ⟨S_, .f32⟩
  | 91 => ⟨S10000, .f32⟩
  | 92 => ⟨S320000x1, .i32⟩
  | 93 => ⟨S10000, .f32⟩
  | 94 => ⟨S_, .f32⟩
  | 95 => ⟨S_, .f32⟩
  | 96 => ⟨S10000, .f32⟩
  | 97 => ⟨S10000, .f32⟩
  | 98 => ⟨S10000x1, .f32⟩
  | 99 => ⟨S10000x128, .f32⟩
  | 100 => ⟨S10000x128, .f32⟩
  | 101 => ⟨S128x128, .f32⟩
  | 102 => ⟨S10000x128, .f32⟩
  | 103 => ⟨S1x128, .f32⟩
  | 104 => ⟨S10000x128, .f32⟩
  | 105 => ⟨S10000x128, .f32⟩
  | 106 => ⟨S128x128, .f32⟩
  | 107 => ⟨S10000x128, .f32⟩
  | 108 => ⟨S10000x128, .f32⟩
  | 109 => ⟨S_, .f32⟩
  | 110 => ⟨S10000x128, .f32⟩
  | 111 => ⟨S10000x128, .f32⟩
  | 112 => ⟨S_, .f32⟩
  | 113 => ⟨S10000x128, .f32⟩
  | 114 => ⟨S10000x128, .f32⟩
  | 115 => ⟨S10000x256, .f32⟩
  | 116 => ⟨S256x128, .f32⟩
  | 117 => ⟨S10000x128, .f32⟩
  | 118 => ⟨S1x128, .f32⟩
  | 119 => ⟨S10000x128, .f32⟩
  | 120 => ⟨S10000x128, .f32⟩
  | 121 => ⟨S_, .f32⟩
  | 122 => ⟨S10000x128, .f32⟩
  | 123 => ⟨S10000x128, .f32⟩
  | 124 => ⟨S128x1, .f32⟩
  | 125 => ⟨S10000x1, .f32⟩
  | 126 => ⟨S1x1, .f32⟩
  | 127 => ⟨S10000x1, .f32⟩
  | _ => ⟨S10000x20x128, .f32⟩

abbrev hbmTy0_2 (i : Nat) : BufTy := match i % 128 with
  | 0 => ⟨S10000x1, .f32⟩
  | 1 => ⟨S10000x1, .f32⟩
  | 2 => ⟨S10000x1, .f32⟩
  | 3 => ⟨S_, .f32⟩
  | 4 => ⟨S10000x1, .f32⟩
  | 5 => ⟨S10000x1, .f32⟩
  | 6 => ⟨S_, .f32⟩
  | 7 => ⟨S10000x1, .f32⟩
  | 8 => ⟨S10000x1, .f32⟩
  | _ => ⟨S10000x20x128, .f32⟩

abbrev hbmTy (i : Nat) : BufTy := match i / 128 with
  | 0 => hbmTy0_0 i
  | 1 => hbmTy0_1 i
  | 2 => hbmTy0_2 i
  | _ => ⟨S10000x20x128, .f32⟩

abbrev bufTy : (tb : Table) → Fin (tcTables nBuf tb) → BufTy
  | .hbm, ⟨i, _⟩ => hbmTy i
  | _, _ => ⟨S10000x20x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_cst_0 : Ref sig .tc := ⟨.hbm, 22, rfl⟩
abbrev main_v2 : Ref sig .tc := ⟨.hbm, 23, rfl⟩
abbrev main_c : Ref sig .tc := ⟨.hbm, 24, rfl⟩
abbrev main_v3_0 : Ref sig .tc := ⟨.hbm, 25, rfl⟩
abbrev main_v3_1 : Ref sig .tc := ⟨.hbm, 26, rfl⟩
abbrev main_v3_2 : Ref sig .tc := ⟨.hbm, 27, rfl⟩
abbrev main_v3_3 : Ref sig .tc := ⟨.hbm, 28, rfl⟩
abbrev main_v3_4 : Ref sig .tc := ⟨.hbm, 29, rfl⟩
abbrev main_v3_5 : Ref sig .tc := ⟨.hbm, 30, rfl⟩
abbrev main_v3_6 : Ref sig .tc := ⟨.hbm, 31, rfl⟩
abbrev main_v3_7 : Ref sig .tc := ⟨.hbm, 32, rfl⟩
abbrev main_while0c_c_34 : Ref sig .tc := ⟨.hbm, 33, rfl⟩
abbrev main_while0c_v139 : Ref sig .tc := ⟨.hbm, 34, rfl⟩
abbrev main_while0b_call0_c : Ref sig .tc := ⟨.hbm, 35, rfl⟩
abbrev main_while0b_call0_c_0 : Ref sig .tc := ⟨.hbm, 36, rfl⟩
abbrev main_while0b_call0_v0 : Ref sig .tc := ⟨.hbm, 37, rfl⟩
abbrev main_while0b_v139 : Ref sig .tc := ⟨.hbm, 38, rfl⟩
abbrev main_while0b_v140 : Ref sig .tc := ⟨.hbm, 39, rfl⟩
abbrev main_while0b_v141 : Ref sig .tc := ⟨.hbm, 40, rfl⟩
abbrev main_while0b_v142 : Ref sig .tc := ⟨.hbm, 41, rfl⟩
abbrev main_while0b_v143 : Ref sig .tc := ⟨.hbm, 42, rfl⟩
abbrev main_while0b_v144 : Ref sig .tc := ⟨.hbm, 43, rfl⟩
abbrev main_while0b_v145 : Ref sig .tc := ⟨.hbm, 44, rfl⟩
abbrev main_while0b_v146 : Ref sig .tc := ⟨.hbm, 45, rfl⟩
abbrev main_while0b_v147 : Ref sig .tc := ⟨.hbm, 46, rfl⟩
abbrev main_while0b_v148 : Ref sig .tc := ⟨.hbm, 47, rfl⟩
abbrev main_while0b_v149 : Ref sig .tc := ⟨.hbm, 48, rfl⟩
abbrev main_while0b_v150 : Ref sig .tc := ⟨.hbm, 49, rfl⟩
abbrev main_while0b_v151 : Ref sig .tc := ⟨.hbm, 50, rfl⟩
abbrev main_while0b_v152 : Ref sig .tc := ⟨.hbm, 51, rfl⟩
abbrev main_while0b_v153 : Ref sig .tc := ⟨.hbm, 52, rfl⟩
abbrev main_while0b_v154 : Ref sig .tc := ⟨.hbm, 53, rfl⟩
abbrev main_while0b_v155 : Ref sig .tc := ⟨.hbm, 54, rfl⟩
abbrev main_while0b_v156 : Ref sig .tc := ⟨.hbm, 55, rfl⟩
abbrev main_while0b_cst_34 : Ref sig .tc := ⟨.hbm, 56, rfl⟩
abbrev main_while0b_v157 : Ref sig .tc := ⟨.hbm, 57, rfl⟩
abbrev main_while0b_v158 : Ref sig .tc := ⟨.hbm, 58, rfl⟩
abbrev main_while0b_cst_35 : Ref sig .tc := ⟨.hbm, 59, rfl⟩
abbrev main_while0b_v159 : Ref sig .tc := ⟨.hbm, 60, rfl⟩
abbrev main_while0b_v160 : Ref sig .tc := ⟨.hbm, 61, rfl⟩
abbrev main_while0b_v161 : Ref sig .tc := ⟨.hbm, 62, rfl⟩
abbrev main_while0b_v162 : Ref sig .tc := ⟨.hbm, 63, rfl⟩
abbrev main_while0b_v163 : Ref sig .tc := ⟨.hbm, 64, rfl⟩
abbrev main_while0b_cst_36 : Ref sig .tc := ⟨.hbm, 65, rfl⟩
abbrev main_while0b_v164 : Ref sig .tc := ⟨.hbm, 66, rfl⟩
abbrev main_while0b_v165 : Ref sig .tc := ⟨.hbm, 67, rfl⟩
abbrev main_while0b_cst_37 : Ref sig .tc := ⟨.hbm, 68, rfl⟩
abbrev main_while0b_v166 : Ref sig .tc := ⟨.hbm, 69, rfl⟩
abbrev main_while0b_v167 : Ref sig .tc := ⟨.hbm, 70, rfl⟩
abbrev main_while0b_v168 : Ref sig .tc := ⟨.hbm, 71, rfl⟩
abbrev main_while0b_v169 : Ref sig .tc := ⟨.hbm, 72, rfl⟩
abbrev main_while0b_v170 : Ref sig .tc := ⟨.hbm, 73, rfl⟩
abbrev main_while0b_v171 : Ref sig .tc := ⟨.hbm, 74, rfl⟩
abbrev main_while0b_v172 : Ref sig .tc := ⟨.hbm, 75, rfl⟩
abbrev main_while0b_cst_38 : Ref sig .tc := ⟨.hbm, 76, rfl⟩
abbrev main_while0b_v173 : Ref sig .tc := ⟨.hbm, 77, rfl⟩
abbrev main_while0b_v174 : Ref sig .tc := ⟨.hbm, 78, rfl⟩
abbrev main_while0b_cst_39 : Ref sig .tc := ⟨.hbm, 79, rfl⟩
abbrev main_while0b_v175 : Ref sig .tc := ⟨.hbm, 80, rfl⟩
abbrev main_while0b_v176 : Ref sig .tc := ⟨.hbm, 81, rfl⟩
abbrev main_while0b_v177 : Ref sig .tc := ⟨.hbm, 82, rfl⟩
abbrev main_while0b_v178 : Ref sig .tc := ⟨.hbm, 83, rfl⟩
abbrev main_while0b_c_40 : Ref sig .tc := ⟨.hbm, 84, rfl⟩
abbrev main_while0b_v179 : Ref sig .tc := ⟨.hbm, 85, rfl⟩
abbrev main_v4 : Ref sig .tc := ⟨.hbm, 86, rfl⟩
abbrev main_v5 : Ref sig .tc := ⟨.hbm, 87, rfl⟩
abbrev main_v6 : Ref sig .tc := ⟨.hbm, 88, rfl⟩
abbrev main_v7 : Ref sig .tc := ⟨.hbm, 89, rfl⟩
abbrev main_v8 : Ref sig .tc := ⟨.hbm, 90, rfl⟩
abbrev main_v9 : Ref sig .tc := ⟨.hbm, 91, rfl⟩
abbrev main_v10 : Ref sig .tc := ⟨.hbm, 92, rfl⟩
abbrev main_v11 : Ref sig .tc := ⟨.hbm, 93, rfl⟩
abbrev main_v12 : Ref sig .tc := ⟨.hbm, 94, rfl⟩
abbrev main_c_1 : Ref sig .tc := ⟨.hbm, 95, rfl⟩
abbrev main_v13 : Ref sig .tc := ⟨.hbm, 96, rfl⟩
abbrev main_v14 : Ref sig .tc := ⟨.hbm, 97, rfl⟩
abbrev main_c_2 : Ref sig .tc := ⟨.hbm, 98, rfl⟩
abbrev main_v15 : Ref sig .tc := ⟨.hbm, 99, rfl⟩
abbrev main_v16 : Ref sig .tc := ⟨.hbm, 100, rfl⟩
abbrev main_v17 : Ref sig .tc := ⟨.hbm, 101, rfl⟩
abbrev main_v18 : Ref sig .tc := ⟨.hbm, 102, rfl⟩
abbrev main_v19 : Ref sig .tc := ⟨.hbm, 103, rfl⟩
abbrev main_cst_3 : Ref sig .tc := ⟨.hbm, 104, rfl⟩
abbrev main_v20 : Ref sig .tc := ⟨.hbm, 105, rfl⟩
abbrev main_v21 : Ref sig .tc := ⟨.hbm, 106, rfl⟩
abbrev main_v22 : Ref sig .tc := ⟨.hbm, 107, rfl⟩
abbrev main_cst_4 : Ref sig .tc := ⟨.hbm, 108, rfl⟩
abbrev main_v23 : Ref sig .tc := ⟨.hbm, 109, rfl⟩
abbrev main_cst_5 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_cst_6 : Ref sig .tc := ⟨.hbm, 114, rfl⟩
abbrev main_call1_v0 : Ref sig .tc := ⟨.hbm, 115, rfl⟩
abbrev main_call1_v1 : Ref sig .tc := ⟨.hbm, 116, rfl⟩
abbrev main_v27 : Ref sig .tc := ⟨.hbm, 117, rfl⟩
abbrev main_v28 : Ref sig .tc := ⟨.hbm, 118, rfl⟩
abbrev main_v29 : Ref sig .tc := ⟨.hbm, 119, rfl⟩
abbrev main_v30 : Ref sig .tc := ⟨.hbm, 120, rfl⟩
abbrev main_v31 : Ref sig .tc := ⟨.hbm, 121, rfl⟩
abbrev main_v32 : Ref sig .tc := ⟨.hbm, 122, rfl⟩
abbrev main_v33 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_c_7 : Ref sig .tc := ⟨.hbm, 129, rfl⟩
abbrev main_v39 : Ref sig .tc := ⟨.hbm, 130, rfl⟩
abbrev main_v40 : Ref sig .tc := ⟨.hbm, 131, rfl⟩
abbrev main_c_8 : Ref sig .tc := ⟨.hbm, 132, rfl⟩
abbrev main_v41 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_v45 : Ref sig .tc := ⟨.hbm, 137, rfl⟩
abbrev main_cst_9 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev main_cst_10 : Ref sig .tc := ⟨.hbm, 142, rfl⟩
abbrev main_v49 : Ref sig .tc := ⟨.hbm, 143, rfl⟩
abbrev main_cst_11 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_cst_12 : Ref sig .tc := ⟨.hbm, 148, rfl⟩
abbrev main_call2_v0 : Ref sig .tc := ⟨.hbm, 149, rfl⟩
abbrev main_call2_v1 : Ref sig .tc := ⟨.hbm, 150, rfl⟩
abbrev main_v53 : Ref sig .tc := ⟨.hbm, 151, rfl⟩
abbrev main_v54 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_v59 : Ref sig .tc := ⟨.hbm, 157, rfl⟩
abbrev main_v60 : Ref sig .tc := ⟨.hbm, 158, rfl⟩
abbrev main_v61 : Ref sig .tc := ⟨.hbm, 159, rfl⟩
abbrev main_v62 : Ref sig .tc := ⟨.hbm, 160, rfl⟩
abbrev main_v63 : Ref sig .tc := ⟨.hbm, 161, rfl⟩
abbrev main_v64 : Ref sig .tc := ⟨.hbm, 162, rfl⟩
abbrev main_call3_cst : Ref sig .tc := ⟨.hbm, 163, rfl⟩
abbrev main_call3_v0 : Ref sig .tc := ⟨.hbm, 164, rfl⟩
abbrev main_v65 : Ref sig .tc := ⟨.hbm, 165, rfl⟩
abbrev main_call4_cst : Ref sig .tc := ⟨.hbm, 166, rfl⟩
abbrev main_call4_v0 : Ref sig .tc := ⟨.hbm, 167, rfl⟩
abbrev main_v66 : Ref sig .tc := ⟨.hbm, 168, rfl⟩
abbrev main_c_13 : Ref sig .tc := ⟨.hbm, 169, rfl⟩
abbrev main_v67 : Ref sig .tc := ⟨.hbm, 170, rfl⟩
abbrev main_v68 : Ref sig .tc := ⟨.hbm, 171, rfl⟩
abbrev main_c_14 : Ref sig .tc := ⟨.hbm, 172, rfl⟩
abbrev main_v69 : Ref sig .tc := ⟨.hbm, 173, rfl⟩
abbrev main_v70 : Ref sig .tc := ⟨.hbm, 174, rfl⟩
abbrev main_v71 : Ref sig .tc := ⟨.hbm, 175, rfl⟩
abbrev main_v72 : Ref sig .tc := ⟨.hbm, 176, rfl⟩
abbrev main_v73 : Ref sig .tc := ⟨.hbm, 177, rfl⟩
abbrev main_cst_15 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_cst_16 : Ref sig .tc := ⟨.hbm, 182, rfl⟩
abbrev main_v77 : Ref sig .tc := ⟨.hbm, 183, rfl⟩
abbrev main_cst_17 : Ref sig .tc := ⟨.hbm, 184, rfl⟩
abbrev main_v78 : Ref sig .tc := ⟨.hbm, 185, rfl⟩
abbrev main_v79 : Ref sig .tc := ⟨.hbm, 186, rfl⟩
abbrev main_v80 : Ref sig .tc := ⟨.hbm, 187, rfl⟩
abbrev main_cst_18 : Ref sig .tc := ⟨.hbm, 188, rfl⟩
abbrev main_call5_v0 : Ref sig .tc := ⟨.hbm, 189, rfl⟩
abbrev main_call5_v1 : Ref sig .tc := ⟨.hbm, 190, rfl⟩
abbrev main_v81 : Ref sig .tc := ⟨.hbm, 191, rfl⟩
abbrev main_v82 : Ref sig .tc := ⟨.hbm, 192, rfl⟩
abbrev main_v83 : Ref sig .tc := ⟨.hbm, 193, rfl⟩
abbrev main_v84 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_c_19 : Ref sig .tc := ⟨.hbm, 203, rfl⟩
abbrev main_v93 : Ref sig .tc := ⟨.hbm, 204, rfl⟩
abbrev main_v94 : Ref sig .tc := ⟨.hbm, 205, rfl⟩
abbrev main_c_20 : Ref sig .tc := ⟨.hbm, 206, rfl⟩
abbrev main_v95 : Ref sig .tc := ⟨.hbm, 207, rfl⟩
abbrev main_v96 : Ref sig .tc := ⟨.hbm, 208, rfl⟩
abbrev main_v97 : Ref sig .tc := ⟨.hbm, 209, rfl⟩
abbrev main_v98 : Ref sig .tc := ⟨.hbm, 210, rfl⟩
abbrev main_v99 : Ref sig .tc := ⟨.hbm, 211, rfl⟩
abbrev main_cst_21 : Ref sig .tc := ⟨.hbm, 212, rfl⟩
abbrev main_v100 : Ref sig .tc := ⟨.hbm, 213, rfl⟩
abbrev main_v101 : Ref sig .tc := ⟨.hbm, 214, rfl⟩
abbrev main_v102 : Ref sig .tc := ⟨.hbm, 215, rfl⟩
abbrev main_cst_22 : Ref sig .tc := ⟨.hbm, 216, rfl⟩
abbrev main_v103 : Ref sig .tc := ⟨.hbm, 217, rfl⟩
abbrev main_cst_23 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_cst_24 : Ref sig .tc := ⟨.hbm, 222, rfl⟩
abbrev main_call6_v0 : Ref sig .tc := ⟨.hbm, 223, rfl⟩
abbrev main_call6_v1 : Ref sig .tc := ⟨.hbm, 224, rfl⟩
abbrev main_v107 : Ref sig .tc := ⟨.hbm, 225, rfl⟩
abbrev main_v108 : Ref sig .tc := ⟨.hbm, 226, rfl⟩
abbrev main_v109 : Ref sig .tc := ⟨.hbm, 227, rfl⟩
abbrev main_v110 : Ref sig .tc := ⟨.hbm, 228, rfl⟩
abbrev main_v111 : Ref sig .tc := ⟨.hbm, 229, rfl⟩
abbrev main_v112 : Ref sig .tc := ⟨.hbm, 230, rfl⟩
abbrev main_v113 : Ref sig .tc := ⟨.hbm, 231, rfl⟩
abbrev main_v114 : Ref sig .tc := ⟨.hbm, 232, rfl⟩
abbrev main_v115 : Ref sig .tc := ⟨.hbm, 233, rfl⟩
abbrev main_v116 : Ref sig .tc := ⟨.hbm, 234, rfl⟩
abbrev main_v117 : Ref sig .tc := ⟨.hbm, 235, rfl⟩
abbrev main_v118 : Ref sig .tc := ⟨.hbm, 236, rfl⟩
abbrev main_call7_cst : Ref sig .tc := ⟨.hbm, 237, rfl⟩
abbrev main_call7_v0 : Ref sig .tc := ⟨.hbm, 238, rfl⟩
abbrev main_v119 : Ref sig .tc := ⟨.hbm, 239, rfl⟩
abbrev main_call8_cst : Ref sig .tc := ⟨.hbm, 240, rfl⟩
abbrev main_call8_v0 : Ref sig .tc := ⟨.hbm, 241, rfl⟩
abbrev main_v120 : Ref sig .tc := ⟨.hbm, 242, rfl⟩
abbrev main_v121 : Ref sig .tc := ⟨.hbm, 243, rfl⟩
abbrev main_v122 : Ref sig .tc := ⟨.hbm, 244, rfl⟩
abbrev main_v123 : Ref sig .tc := ⟨.hbm, 245, rfl⟩
abbrev main_v124 : Ref sig .tc := ⟨.hbm, 246, rfl⟩
abbrev main_v125 : Ref sig .tc := ⟨.hbm, 247, rfl⟩
abbrev main_v126 : Ref sig .tc := ⟨.hbm, 248, rfl⟩
abbrev main_call9_cst : Ref sig .tc := ⟨.hbm, 249, rfl⟩
abbrev main_call9_v0 : Ref sig .tc := ⟨.hbm, 250, rfl⟩
abbrev main_v127 : Ref sig .tc := ⟨.hbm, 251, rfl⟩
abbrev main_v128 : Ref sig .tc := ⟨.hbm, 252, rfl⟩
abbrev main_v129 : Ref sig .tc := ⟨.hbm, 253, rfl⟩
abbrev main_v130 : Ref sig .tc := ⟨.hbm, 254, rfl⟩
abbrev main_v131 : Ref sig .tc := ⟨.hbm, 255, rfl⟩
abbrev main_v132 : Ref sig .tc := ⟨.hbm, 256, rfl⟩
abbrev main_v133 : Ref sig .tc := ⟨.hbm, 257, rfl⟩
abbrev main_v134 : Ref sig .tc := ⟨.hbm, 258, rfl⟩
abbrev main_cst_25 : Ref sig .tc := ⟨.hbm, 259, rfl⟩
abbrev main_v135 : Ref sig .tc := ⟨.hbm, 260, rfl⟩
abbrev main_v136 : Ref sig .tc := ⟨.hbm, 261, rfl⟩
abbrev main_cst_26 : Ref sig .tc := ⟨.hbm, 262, rfl⟩
abbrev main_v137 : Ref sig .tc := ⟨.hbm, 263, rfl⟩
abbrev main_v138 : Ref sig .tc := ⟨.hbm, 264, rfl⟩

abbrev nD : Nat := 1
abbrev τ : Topo := Topo.v7x

variable {F : FTy → Type} [FloatOps F]

abbrev main_while0_count : Scf.Loop 32 := ⟨0#32, 20#32, 1#32⟩
-- ==== Proof.Frames.lean ====
/- The reference's frame: its generated run leaves the arguments as launched, and it declares no semaphore. -/
module

public import proofs.«01_k».proof.Defs
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384

noncomputable section

namespace Cert.Proof

open Idealize.ShloMosaic Idealize.SL.Sem

/-- The reference ends with its arguments unchanged and every counter at zero. -/
theorem frame_ri : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof

end
-- ==== Proof.KernelRun.lean ====
/- The kernel's run with its result named: every unscoped buffer of the TensorCore ends at the contents of the last
   boundary of the generated fold. -/
module

public import proofs.«01_k».proof.Proof.Gen.KernelIdeal.Frame

@[expose] public section

set_option maxRecDepth 16384

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the generated segments, read at every unscoped buffer: from any memory with zero counters, every
    execution ends, and each unscoped buffer of each TensorCore then holds what the fold says after the last region. -/
theorem run_fold : θ_run defs (onTc (τ := τ) (main (F := F))) ⟨m, fun _ => 0, ρ⟩
    (fun r => ∀ c : Dev nD, ∀ b ∈ Pipeline.ucRefs τ sig, r.2.mem (((c : Thread nD τ)).1, b) = W14 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ c b hb => h c b hb)

end Cert.Proof.KernelRun

end
-- ==== Proof.Spec.lean ====
/- The mathematics, as functions on whole arrays: one step of the recurrent cell, the linear encoding of the contents,
   one mean-aggregation layer over the edges, and the classifier. Written with the reference's own operations. -/
module

public import proofs.«01_k».proof.Proof.Gen.ReferenceIdeal
public import Idealize.ShloMosaic.Lib.Pointwise

@[expose] public section

set_option maxRecDepth 16384

noncomputable section

namespace Cert.Proof.Spec

open Cert.ReferenceIdeal Cert.ReferenceIdeal.Gen
open Idealize.ShloMosaic Idealize.ShloMosaic.TcCoe

/-! ## Recurrent cell -/

/-- The preactivations of one step: the input's and the state's products with the two weight matrices, and both biases. -/
def gates (x : FVec Ideal S10000x128 .f32) (wih whh : FVec Ideal S512x128 .f32) (bih bhh : FVec Ideal S512 .f32)
    (h : FVec Ideal S10000x128 .f32) : FVec Ideal S10000x512 .f32 :=
  addf (addf (addf (Host.dotGeneral (φ₁ := .f32) (φ₂ := .f32) dot_S10000x128_S128x512_S10000x512_1_0_0_1_n_n none x
      (transpose S128x512 [1, 0] wih transposes_S512x128_S128x512_1_0))
    (Host.dotGeneral (φ₁ := .f32) (φ₂ := .f32) dot_S10000x128_S128x512_S10000x512_1_0_0_1_n_n none h
      (transpose S128x512 [1, 0] whh transposes_S512x128_S128x512_1_0)))
    (broadcastInDim S10000x512 ![0, 1] bcast_S1x512_S10000x512_0_1 (broadcastInDim S1x512 ![1] bcast_S512_S1x512_1 bih)))
    (broadcastInDim S10000x512 ![0, 1] bcast_S1x512_S10000x512_0_1 (broadcastInDim S1x512 ![1] bcast_S512_S1x512_1 bhh))

/-- The logistic function as the reference spells it. -/
def sigma (z : FVec Ideal S10000x128 .f32) : FVec Ideal S10000x128 .f32 :=
  Host.divf (broadcastInDim S10000x128 ![] bcast_S_S10000x128 (constant S_ .f32 0x3F800000#32))
    (addf (broadcastInDim S10000x128 ![] bcast_S_S10000x128 (constant S_ .f32 0x3F800000#32)) (Host.exp (Host.negf z)))

/-- The cell state after a step. -/
def cell (z : FVec Ideal S10000x512 .f32) (c : FVec Ideal S10000x128 .f32) : FVec Ideal S10000x128 .f32 :=
  addf (mulf (sigma (extractStridedSlice S10000x128 ![0, 128] z slices_S10000x512_S10000x128_0_128)) c)
    (mulf (sigma (extractStridedSlice S10000x128 ![0, 0] z slices_S10000x512_S10000x128_0_0))
      (Host.tanh (extractStridedSlice S10000x128 ![0, 256] z slices_S10000x512_S10000x128_0_256)))

/-- The hidden state after a step. -/
def hidden (z : FVec Ideal S10000x512 .f32) (c : FVec Ideal S10000x128 .f32) : FVec Ideal S10000x128 .f32 :=
  mulf (sigma (extractStridedSlice S10000x128 ![0, 384] z slices_S10000x512_S10000x128_0_384)) (Host.tanh c)

/-- The inputs of step `k`: column `k` of the sequences. -/
def column (X : FVec Ideal S10000x20x128 .f32) (k : ℕ) : FVec Ideal S10000x128 .f32 :=
  fun i => X (ix3 (i 0) (Fin.ofNat 20 k) (i 1))

/-- The pair of hidden and cell state after `k` steps from zero. -/
def lstm (X : FVec Ideal S10000x20x128 .f32) (wih whh : FVec Ideal S512x128 .f32) (bih bhh : FVec Ideal S512 .f32) :
    ℕ → FVec Ideal S10000x128 .f32 × FVec Ideal S10000x128 .f32
  | 0 => (fun _ => (0 : EReal), fun _ => (0 : EReal))
  | k + 1 =>
    let z := gates (column X k) wih whh bih bhh (lstm X wih whh bih bhh k).1
    (hidden z (cell z (lstm X wih whh bih bhh k).2), cell z (lstm X wih whh bih bhh k).2)

/-! ## Graph layers -/

/-- Row 0 of the edge list. -/
def row0 (E : IVec S2x320000 32) : IVec S320000 32 :=
  shapeCast _ (extractStridedSlice S1x320000 ![0, 0] E slices_S2x320000_S1x320000_0_0) shapeCasts_S1x320000_S320000

/-- Row 1 of the edge list. -/
def row1 (E : IVec S2x320000 32) : IVec S320000 32 :=
  shapeCast _ (extractStridedSlice S1x320000 ![1, 0] E slices_S2x320000_S1x320000_1_0) shapeCasts_S1x320000_S320000

/-- Indices made non-negative, as the gather takes them. -/
def wrap (r : IVec S320000 32) : IVec S320000 32 :=
  select (cmpi .slt r (broadcastInDim S320000 ![] bcast_S_S320000 (constantI S_ 32 0#32)))
    (addi r (broadcastInDim S320000 ![] bcast_S_S320000 (constantI S_ 32 10000#32))) r

/-- Rows of `X` gathered at `g` and summed at `s`. -/
def agg (X : FVec Ideal S10000x128 .f32) (g s : IVec S320000 32) : FVec Ideal S10000x128 .f32 :=
  Host.scatterAdd scatter_S10000x128_S320000x1_S320000x128_1_0_0_1
    (broadcastInDim S10000x128 ![] bcast_S_S10000x128 (constant S_ .f32 0x00000000#32))
    (broadcastInDim S320000x1 ![0] bcast_S320000_S320000x1_0 s)
    (Host.gather gather_S10000x128_S320000x1_S320000x128_1_0_n_n_0_1_1128 X
      (broadcastInDim S320000x1 ![0] bcast_S320000_S320000x1_0 (wrap g)))

/-- How many edges end at each node. -/
def degree (s : IVec S320000 32) : FVec Ideal S10000 .f32 :=
  Host.scatterAdd scatter_S10000_S320000x1_S320000_n_0_0_1
    (broadcastInDim S10000 ![] bcast_S_S10000 (constant S_ .f32 0x00000000#32))
    (broadcastInDim S320000x1 ![0] bcast_S320000_S320000x1_0 s)
    (broadcastInDim S320000 ![] bcast_S_S320000 (constant S_ .f32 0x3F800000#32))

/-- The contents' linear encoding. -/
def encode (A : FVec Ideal S10000x128 .f32) (w : FVec Ideal S128x128 .f32) (b : FVec Ideal S128 .f32) :
    FVec Ideal S10000x128 .f32 :=
  addf (Host.dotGeneral (φ₁ := .f32) (φ₂ := .f32) dot_S10000x128_S128x128_S10000x128_1_0_0_1_n_n none A
      (transpose S128x128 [1, 0] w transposes_S128x128_S128x128_1_0))
    (broadcastInDim S10000x128 ![0, 1] bcast_S1x128_S10000x128_0_1 (broadcastInDim S1x128 ![1] bcast_S128_S1x128_1 b))

/-- One layer: the neighbours' mean (sum `S` over degree `D`, at least one) and the node's own row `X`, each through its
    weights, with a bias, clipped at zero. -/
def sage (S : FVec Ideal S10000x128 .f32) (D : FVec Ideal S10000 .f32) (X : FVec Ideal S10000x128 .f32)
    (wl wr : FVec Ideal S128x128 .f32) (b : FVec Ideal S128 .f32) : FVec Ideal S10000x128 .f32 :=
  maximumf (addf (addf (Host.dotGeneral (φ₁ := .f32) (φ₂ := .f32) dot_S10000x128_S128x128_S10000x128_1_0_0_1_n_n none
        (Host.divf S (broadcastInDim S10000x128 ![0, 1] bcast_S10000x1_S10000x128_0_1
          (broadcastInDim S10000x1 ![0] bcast_S10000_S10000x1_0
            (maximumf (broadcastInDim S10000 ![] bcast_S_S10000 (id (constant S_ .f32 0x3F800000#32))) D))))
        (transpose S128x128 [1, 0] wl transposes_S128x128_S128x128_1_0))
      (broadcastInDim S10000x128 ![0, 1] bcast_S1x128_S10000x128_0_1 (broadcastInDim S1x128 ![1] bcast_S128_S1x128_1 b)))
    (Host.dotGeneral (φ₁ := .f32) (φ₂ := .f32) dot_S10000x128_S128x128_S10000x128_1_0_0_1_n_n none X
      (transpose S128x128 [1, 0] wr transposes_S128x128_S128x128_1_0)))
    (broadcastInDim S10000x128 ![] bcast_S_S10000x128 (constant S_ .f32 0x00000000#32))

/-! ## Classifier -/

/-- The classifier on the two embeddings side by side. -/
def classify (U C : FVec Ideal S10000x128 .f32) (w1 : FVec Ideal S128x256 .f32) (b1 : FVec Ideal S128 .f32)
    (w2 : FVec Ideal S1x128 .f32) (b2 : FVec Ideal S1 .f32) : FVec Ideal S10000x1 .f32 :=
  Host.divf (broadcastInDim S10000x1 ![] bcast_S_S10000x1 (constant S_ .f32 0x3F800000#32))
    (addf (broadcastInDim S10000x1 ![] bcast_S_S10000x1 (constant S_ .f32 0x3F800000#32))
      (Host.exp (Host.negf (addf
        (Host.dotGeneral (φ₁ := .f32) (φ₂ := .f32) dot_S10000x128_S128x1_S10000x1_1_0_0_1_n_n none
          (maximumf (addf
              (Host.dotGeneral (φ₁ := .f32) (φ₂ := .f32) dot_S10000x256_S256x128_S10000x128_1_0_0_1_n_n none
                (concatenate S10000x256 1 [⟨S10000x128, U⟩, ⟨S10000x128, C⟩] concatenates_S10000x128_S10000x128_S10000x256_d1)
                (transpose S256x128 [1, 0] w1 transposes_S128x256_S256x128_1_0))
              (broadcastInDim S10000x128 ![0, 1] bcast_S1x128_S10000x128_0_1 (broadcastInDim S1x128 ![1] bcast_S128_S1x128_1 b1)))
            (broadcastInDim S10000x128 ![] bcast_S_S10000x128 (constant S_ .f32 0x00000000#32)))
          (transpose S128x1 [1, 0] w2 transposes_S1x128_S128x1_1_0))
        (broadcastInDim S10000x1 ![0, 1] bcast_S1x1_S10000x1_0_1 (broadcastInDim S1x1 ![1] bcast_S1_S1x1_1 b2))))))

/-- Everything after the recurrent cell, from the users' embedding `U` and the contents' encoding `C`. -/
def network (U C : FVec Ideal S10000x128 .f32) (E : IVec S2x320000 32)
    (wl1 wr1 : FVec Ideal S128x128 .f32) (b1 : FVec Ideal S128 .f32)
    (wl2 wr2 : FVec Ideal S128x128 .f32) (b2 : FVec Ideal S128 .f32)
    (cw1 : FVec Ideal S128x256 .f32) (cb1 : FVec Ideal S128 .f32)
    (cw2 : FVec Ideal S1x128 .f32) (cb2 : FVec Ideal S1 .f32) : FVec Ideal S10000x1 .f32 :=
  let C1 := sage (agg U (row0 E) (row1 E)) (degree (row1 E)) C wl1 wr1 b1
  let U1 := sage (agg C (row1 E) (row0 E)) (degree (row0 E)) U wl1 wr1 b1
  let C2 := sage (agg U1 (row0 E) (row1 E)) (degree (row1 E)) C1 wl2 wr2 b2
  let U2 := sage (agg C1 (row1 E) (row0 E)) (degree (row0 E)) U1 wl2 wr2 b2
  classify U2 C2 cw1 cb1 cw2 cb2

end Cert.Proof.Spec

end
-- ==== Proof.HostReads.lean ====
/- What the kernel's host stretches leave in the buffers its regions read, from any contents before the stretch. -/
module

public import proofs.«01_k».proof.Proof.Gen.KernelIdeal.Frame
public import proofs.«01_k».proof.Proof.Spec
public import Idealize.ShloMosaic.Lib.StableHlo.RunRead

@[expose] public section

set_option maxRecDepth 16384

noncomputable section

namespace Cert.Proof.HostReads

open Cert.KernelIdeal Cert.KernelIdeal.Gen
open Idealize.ShloMosaic Idealize.ShloMosaic.TcCoe Idealize.SL.Sem Idealize.ShloMosaic.StableHlo

variable (V : Valuation τ sig (Elt Ideal))

/-! ## Biases and weights -/

theorem v1 : after hostOps0 V (Proc.devRef .tc main_v1)
    = shapeCast S1x512 (addf (F := Ideal) (φ := .f32) (s := S512) (V (Proc.devRef .tc main_arg5)) (V (Proc.devRef .tc main_arg6)))
        shapeCasts_S512_S1x512 := by
  after_reads_simp; rfl

theorem v3 : after hostOps1 V (Proc.devRef .tc main_v3)
    = shapeCast S1x128 (V (Proc.devRef .tc main_arg8)) shapeCasts_S128_S1x128 := by
  after_reads_simp; rfl

theorem v38 : after hostOps2 V (Proc.devRef .tc main_v38)
    = shapeCast S1x128 (V (Proc.devRef .tc main_arg11)) shapeCasts_S128_S1x128 := by
  after_reads_simp; rfl

theorem v40 : after hostOps3 V (Proc.devRef .tc main_v40)
    = shapeCast S1x128 (V (Proc.devRef .tc main_arg11)) shapeCasts_S128_S1x128 := by
  after_reads_simp; rfl

theorem v62 : after hostOps4 V (Proc.devRef .tc main_v62)
    = shapeCast S1x128 (V (Proc.devRef .tc main_arg14)) shapeCasts_S128_S1x128 := by
  after_reads_simp; rfl

theorem v64 : after hostOps5 V (Proc.devRef .tc main_v64)
    = shapeCast S1x128 (V (Proc.devRef .tc main_arg14)) shapeCasts_S128_S1x128 := by
  after_reads_simp; rfl

theorem v66 : after hostOps6 V (Proc.devRef .tc main_v66)
    = shapeCast S1x128 (V (Proc.devRef .tc main_arg16)) shapeCasts_S128_S1x128 := by
  after_reads_simp; rfl

theorem v67 : after hostOps6 V (Proc.devRef .tc main_v67)
    = shapeCast S1x1 (V (Proc.devRef .tc main_arg18)) shapeCasts_S1_S1x1 := by
  after_reads_simp; rfl

theorem v68 : after hostOps6 V (Proc.devRef .tc main_v68)
    = extractStridedSlice S128x128 ![0, 0] (V (Proc.devRef .tc main_arg15)) slices_S128x256_S128x128_0_0 := by
  after_reads_simp

theorem v69 : after hostOps6 V (Proc.devRef .tc main_v69)
    = extractStridedSlice S128x128 ![0, 128] (V (Proc.devRef .tc main_arg15)) slices_S128x256_S128x128_0_128 := by
  after_reads_simp

/-! ## Edges, degrees and the neighbours' sums -/

theorem v6 : after hostOps2 V (Proc.devRef .tc main_v6) = Spec.row0 (V (Proc.devRef .tc main_arg2)) := by
  after_reads_simp; rfl

theorem v8 : after hostOps2 V (Proc.devRef .tc main_v8) = Spec.row1 (V (Proc.devRef .tc main_arg2)) := by
  after_reads_simp; rfl

theorem v13 : after hostOps2 V (Proc.devRef .tc main_v13)
    = shapeCast S10000x1 (Spec.degree (Spec.row1 (V (Proc.devRef .tc main_arg2)))) shapeCasts_S10000_S10000x1 := by
  after_reads_simp; rfl

theorem v17 : after hostOps2 V (Proc.devRef .tc main_v17)
    = shapeCast S10000x1 (Spec.degree (Spec.row0 (V (Proc.devRef .tc main_arg2)))) shapeCasts_S10000_S10000x1 := by
  after_reads_simp; rfl

theorem v27 : after hostOps2 V (Proc.devRef .tc main_v27)
    = Spec.agg (V (Proc.devRef .tc main_v2)) (Spec.row0 (V (Proc.devRef .tc main_arg2)))
        (Spec.row1 (V (Proc.devRef .tc main_arg2))) := by
  after_reads_simp; rfl

theorem v37 : after hostOps2 V (Proc.devRef .tc main_v37)
    = Spec.agg (V (Proc.devRef .tc main_v4)) (Spec.row1 (V (Proc.devRef .tc main_arg2)))
        (Spec.row0 (V (Proc.devRef .tc main_arg2))) := by
  after_reads_simp; rfl

theorem v51 : after hostOps4 V (Proc.devRef .tc main_v51)
    = Spec.agg (V (Proc.devRef .tc main_v41)) (V (Proc.devRef .tc main_v6)) (V (Proc.devRef .tc main_v8)) := by
  after_reads_simp; rfl

theorem v61 : after hostOps4 V (Proc.devRef .tc main_v61)
    = Spec.agg (V (Proc.devRef .tc main_v39)) (V (Proc.devRef .tc main_v8)) (V (Proc.devRef .tc main_v6)) := by
  after_reads_simp; rfl

end Cert.Proof.HostReads

end
-- ==== Proof.Rows.lean ====
/- The layers with their biases and degrees as the kernel holds them: a bias as one row, the degrees as one column. Each
   is the layer of the mathematics at the reshaped operand. -/
module

public import proofs.«01_k».proof.Proof.Spec

@[expose] public section

set_option maxRecDepth 16384

noncomputable section

namespace Cert.Proof.Spec

open Cert.ReferenceIdeal Cert.ReferenceIdeal.Gen
open Idealize.ShloMosaic Idealize.ShloMosaic.TcCoe

/-- `encode` with its bias as one row. -/
def encodeRow (A : FVec Ideal S10000x128 .f32) (w : FVec Ideal S128x128 .f32) (b : FVec Ideal S1x128 .f32) :
    FVec Ideal S10000x128 .f32 :=
  addf (Host.dotGeneral (φ₁ := .f32) (φ₂ := .f32) dot_S10000x128_S128x128_S10000x128_1_0_0_1_n_n none A
      (transpose S128x128 [1, 0] w transposes_S128x128_S128x128_1_0))
    (broadcastInDim S10000x128 ![0, 1] bcast_S1x128_S10000x128_0_1 b)

/-- `sage` with its degrees as one column and its bias as one row. -/
def sageRow (S : FVec Ideal S10000x128 .f32) (D : FVec Ideal S10000x1 .f32) (X : FVec Ideal S10000x128 .f32)
    (wl wr : FVec Ideal S128x128 .f32) (b : FVec Ideal S1x128 .f32) : FVec Ideal S10000x128 .f32 :=
  maximumf (addf (addf (Host.dotGeneral (φ₁ := .f32) (φ₂ := .f32) dot_S10000x128_S128x128_S10000x128_1_0_0_1_n_n none
        (Host.divf S (broadcastInDim S10000x128 ![0, 1] bcast_S10000x1_S10000x128_0_1
          (maximumf D (broadcastInDim S10000x1 ![] bcast_S_S10000x1 (constant S_ .f32 0x3F800000#32)))))
        (transpose S128x128 [1, 0] wl transposes_S128x128_S128x128_1_0))
      (broadcastInDim S10000x128 ![0, 1] bcast_S1x128_S10000x128_0_1 b))
    (Host.dotGeneral (φ₁ := .f32) (φ₂ := .f32) dot_S10000x128_S128x128_S10000x128_1_0_0_1_n_n none X
      (transpose S128x128 [1, 0] wr transposes_S128x128_S128x128_1_0)))
    (broadcastInDim S10000x128 ![] bcast_S_S10000x128 (constant S_ .f32 0x00000000#32))

/-- A vector of 128 as one row: the reshape is the broadcast along a new leading axis. -/
theorem row_eq (b : FVec Ideal S128 .f32) (h : S128.ShapeCasts S1x128) :
    shapeCast S1x128 b h = broadcastInDim S1x128 ![1] bcast_S128_S1x128_1 b := by
  funext i
  idx_vars i
  pointwise

theorem encodeRow_eq (A : FVec Ideal S10000x128 .f32) (w : FVec Ideal S128x128 .f32) (b : FVec Ideal S128 .f32)
    (h : S128.ShapeCasts S1x128) : encodeRow A w (shapeCast S1x128 b h) = encode A w b := by
  rw [row_eq]; rfl

theorem sageRow_eq (S : FVec Ideal S10000x128 .f32) (D : FVec Ideal S10000 .f32) (X : FVec Ideal S10000x128 .f32)
    (wl wr : FVec Ideal S128x128 .f32) (b : FVec Ideal S128 .f32)
    (hD : S10000.ShapeCasts S10000x1) (hb : S128.ShapeCasts S1x128) :
    sageRow S (shapeCast S10000x1 D hD) X wl wr (shapeCast S1x128 b hb) = sage S D X wl wr b := by
  have e : (maximumf (shapeCast S10000x1 D hD)
        (broadcastInDim S10000x1 ![] bcast_S_S10000x1 (constant S_ .f32 0x3F800000#32)) : FVec Ideal S10000x1 .f32)
      = broadcastInDim S10000x1 ![0] bcast_S10000_S10000x1_0
          (maximumf (broadcastInDim S10000 ![] bcast_S_S10000 (id (constant S_ .f32 0x3F800000#32))) D) := by
    funext i
    idx_vars i
    pointwise [id]
    exact max_comm (α := EReal) _ _
  unfold sageRow
  rw [row_eq, e]; rfl

/-- `classify` with the first layer's weights as two square halves, and its biases as rows. -/
def classifyRow (U C : FVec Ideal S10000x128 .f32) (wu wc : FVec Ideal S128x128 .f32) (b1 : FVec Ideal S1x128 .f32)
    (w2 : FVec Ideal S1x128 .f32) (b2 : FVec Ideal S1x1 .f32) : FVec Ideal S10000x1 .f32 :=
  Host.divf (broadcastInDim S10000x1 ![] bcast_S_S10000x1 (constant S_ .f32 0x3F800000#32))
    (addf (broadcastInDim S10000x1 ![] bcast_S_S10000x1 (constant S_ .f32 0x3F800000#32))
      (Host.exp (Host.negf (addf
        (Host.dotGeneral (φ₁ := .f32) (φ₂ := .f32) dot_S10000x128_S128x1_S10000x1_1_0_0_1_n_n none
          (maximumf (addf (addf
                (Host.dotGeneral (φ₁ := .f32) (φ₂ := .f32) dot_S10000x128_S128x128_S10000x128_1_0_0_1_n_n none U
                  (transpose S128x128 [1, 0] wu transposes_S128x128_S128x128_1_0))
                (Host.dotGeneral (φ₁ := .f32) (φ₂ := .f32) dot_S10000x128_S128x128_S10000x128_1_0_0_1_n_n none C
                  (transpose S128x128 [1, 0] wc transposes_S128x128_S128x128_1_0)))
              (broadcastInDim S10000x128 ![0, 1] bcast_S1x128_S10000x128_0_1 b1))
            (broadcastInDim S10000x128 ![] bcast_S_S10000x128 (constant S_ .f32 0x00000000#32)))
          (transpose S128x1 [1, 0] w2 transposes_S1x128_S128x1_1_0))
        (broadcastInDim S10000x1 ![0, 1] bcast_S1x1_S10000x1_0_1 b2)))))

/-- The product with 256 stacked inputs is the sum of the products with the two halves. -/
theorem classifyRow_eq (U C : FVec Ideal S10000x128 .f32) (w1 : FVec Ideal S128x256 .f32) (b1 : FVec Ideal S128 .f32)
    (w2 : FVec Ideal S1x128 .f32) (b2 : FVec Ideal S1 .f32)
    (h0 : S128x256.Slices ![0, 0] S128x128) (h1 : S128x256.Slices ![0, 128] S128x128)
    (hb : S128.ShapeCasts S1x128) (hb2 : S1.ShapeCasts S1x1) :
    classifyRow U C (extractStridedSlice S128x128 ![0, 0] w1 h0) (extractStridedSlice S128x128 ![0, 128] w1 h1)
      (shapeCast S1x128 b1 hb) w2 (shapeCast S1x1 b2 hb2) = classify U C w1 b1 w2 b2 := by
  funext i
  idx_vars i
  pointwise [classifyRow, classify]

end Cert.Proof.Spec

end
-- ==== Proof.LstmBlock.lean ====
/- Region 0's body: the twenty written-out steps of the recurrent cell on one block are twenty turns of one step. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.LstmBlock

open Cert.KernelIdeal Cert.KernelIdeal.Gen
open Idealize.ShloMosaic Idealize.ShloMosaic.TcCoe Idealize.SL.Sem

variable {F : FTy → Type} [FloatOps F]

/-! ## One step on a block of 1000 sequences -/

/-- The input's product with its weights. -/
def mx (x : Vec F S1000x1x128 .f32) (wi : Vec F S512x128 .f32) : FVec F S1000x512 .f32 :=
  matmul dot_S1000x128_S512x128_S1000x512_1_1_0_0_n_n none (shapeCast S1000x128 x shapeCasts_S1000x1x128_S1000x128) wi
    (constant S1000x512 .f32 0x00000000#32)

/-- The state's product with its weights. -/
def mh (h : FVec F S1000x128 .f32) (wh : Vec F S512x128 .f32) : FVec F S1000x512 .f32 :=
  matmul dot_S1000x128_S512x128_S1000x512_1_1_0_0_n_n none h wh (constant S1000x512 .f32 0x00000000#32)

/-- The bias, cast to its own shape. -/
def cb (b : Vec F S1x512 .f32) : FVec F S1x512 .f32 := shapeCast S1x512 b shapeCasts_S1x512_S1x512

/-- The preactivations. -/
def zB (wi wh : Vec F S512x128 .f32) (b : Vec F S1x512 .f32) (x : Vec F S1000x1x128 .f32) (h : FVec F S1000x128 .f32) :
    FVec F S1000x512 .f32 :=
  addf (addf (mx x wi) (mh h wh)) (broadcastTo S1000x512 (cb b) broadcasts_S1x512_S1000x512)

/-- The four gates. -/
def g0 (z : FVec F S1000x512 .f32) : FVec F S1000x128 .f32 :=
  logistic (extractStridedSlice S1000x128 ![0, 0] z slices_S1000x512_o0_0_S1000x128)
def s1 (z : FVec F S1000x512 .f32) : FVec F S1000x128 .f32 :=
  extractStridedSlice S1000x128 ![0, 128] z slices_S1000x512_o0_128_S1000x128
def g2 (z : FVec F S1000x512 .f32) : FVec F S1000x128 .f32 :=
  tanh (extractStridedSlice S1000x128 ![0, 256] z slices_S1000x512_o0_256_S1000x128)
def g3 (z : FVec F S1000x512 .f32) : FVec F S1000x128 .f32 :=
  logistic (extractStridedSlice S1000x128 ![0, 384] z slices_S1000x512_o0_384_S1000x128)

/-- The cell state after a step. -/
def cB (z : FVec F S1000x512 .f32) (c : FVec F S1000x128 .f32) : FVec F S1000x128 .f32 :=
  addf (mulf (logistic (s1 z)) c) (mulf (g0 z) (g2 z))

/-- The hidden state after a step, from the new cell state. -/
def hB (z : FVec F S1000x512 .f32) (c : FVec F S1000x128 .f32) : FVec F S1000x128 .f32 := mulf (g3 z) (tanh c)

/-- One step on the pair of hidden and cell state. -/
def step (wi wh : Vec F S512x128 .f32) (b : Vec F S1x512 .f32) (x : Vec F S1000x1x128 .f32)
    (p : FVec F S1000x128 .f32 × FVec F S1000x128 .f32) : FVec F S1000x128 .f32 × FVec F S1000x128 .f32 :=
  (hB (zB wi wh b x p.1) (cB (zB wi wh b x p.1) p.2), cB (zB wi wh b x p.1) p.2)

/-- The state before the first step. -/
def start : FVec F S1000x128 .f32 × FVec F S1000x128 .f32 :=
  (broadcast S1000x128 (Scalar.ofBits .f32 0x00000000#32), broadcast S1000x128 (Scalar.ofBits .f32 0x00000000#32))

/-- Column `k` of a block of sequences. -/
def col (x0 : Vec F S1000x20x128 .f32) (k : ℕ) : Vec F S1000x1x128 .f32 := fun y => x0 (ix3 (y 0) (Fin.ofNat 20 k) (y 2))

/-- The state after `k` steps. -/
def st (x0 : Vec F S1000x20x128 .f32) (wi wh : Vec F S512x128 .f32) (b : Vec F S1x512 .f32) :
    ℕ → FVec F S1000x128 .f32 × FVec F S1000x128 .f32
  | 0 => start
  | k + 1 => step wi wh b (col x0 k) (st x0 wi wh b k)

/-! ## The stored values, as functions of the state they start from -/

section Pay

variable (wi wh : Vec F S512x128 .f32) (b : Vec F S1x512 .f32) (x x' : Vec F S1000x1x128 .f32)
  (p : FVec F S1000x128 .f32 × FVec F S1000x128 .f32)

theorem pay2 : k0_pay2 x wi wh b = (step wi wh b x start).2 := rfl
theorem pay3 : k0_pay3 x wi wh b x' wi wh = addf (mx x' wi) (mh (step wi wh b x start).1 wh) := rfl
theorem pay4 : k0_pay4 b = cb b := rfl
theorem pay8 : k0_pay8 p.2 (addf (mx x wi) (mh p.1 wh)) (cb b) x' wi wh b = (step wi wh b x' (step wi wh b x p)).2 := rfl
theorem pay9 : k0_pay9 p.2 (addf (mx x wi) (mh p.1 wh)) (cb b) x' wi wh b = (step wi wh b x' (step wi wh b x p)).1 := rfl
theorem pay10 : k0_pay10 x wi = mx x wi := rfl
theorem pay14 : k0_pay14 p.2 p.1 (mx x wi) wh b x' wi wh b = (step wi wh b x' (step wi wh b x p)).2 := rfl
theorem pay15 : k0_pay15 p.2 p.1 (mx x wi) wh b x' wi wh b = (step wi wh b x' (step wi wh b x p)).1 := rfl
theorem pay17 : k0_pay17 p.2 p.1 x wi wh b = (step wi wh b x p).2 := rfl
theorem pay18 : k0_pay18 p.2 p.1 x wi wh b x' wi wh b = zB wi wh b x' (step wi wh b x p).1 := rfl
theorem pay19 : k0_pay19 p.2 p.1 x wi wh b x' wi wh b = g0 (zB wi wh b x' (step wi wh b x p).1) := rfl
theorem pay20 : k0_pay20 p.2 p.1 x wi wh b x' wi wh b = s1 (zB wi wh b x' (step wi wh b x p).1) := rfl
theorem pay23 : k0_pay23 p.2 (zB wi wh b x p.1) (g0 (zB wi wh b x p.1)) (s1 (zB wi wh b x p.1)) x' wi wh b = (step wi wh b x' (step wi wh b x p)).2 := rfl
theorem pay24 : k0_pay24 x wi = mx x wi := rfl
theorem pay25 : k0_pay25 p.2 (zB wi wh b x p.1) (g0 (zB wi wh b x p.1)) (s1 (zB wi wh b x p.1)) x' wi wh b wh = mh (step wi wh b x' (step wi wh b x p)).1 wh := rfl
theorem pay29 : k0_pay29 p.2 (mx x wi) (mh p.1 wh) b x' wi wh b = (step wi wh b x' (step wi wh b x p)).2 := rfl
theorem pay30 : k0_pay30 p.2 (mx x wi) (mh p.1 wh) b x' wi wh b = (step wi wh b x' (step wi wh b x p)).1 := rfl
theorem pay33 : k0_pay33 p.2 p.1 (k0_pay31 x) wi wh b = (step wi wh b x p).2 := rfl
theorem pay35 : k0_pay35 p.2 p.1 (k0_pay31 x) wi wh b x' wi wh b = g0 (zB wi wh b x' (step wi wh b x p).1) := rfl
theorem pay36 : k0_pay36 p.2 p.1 (k0_pay31 x) wi wh b x' wi wh b = logistic (s1 (zB wi wh b x' (step wi wh b x p).1)) := rfl
theorem pay37 : k0_pay37 p.2 p.1 (k0_pay31 x) wi wh b x' wi wh b = g2 (zB wi wh b x' (step wi wh b x p).1) := rfl
theorem pay38 : k0_pay38 p.2 p.1 (k0_pay31 x) wi wh b x' wi wh b = g3 (zB wi wh b x' (step wi wh b x p).1) := rfl
theorem pay41 : k0_pay41 p.2 (g0 (zB wi wh b x p.1)) (logistic (s1 (zB wi wh b x p.1))) (g2 (zB wi wh b x p.1)) (g3 (zB wi wh b x p.1)) x' wi wh b = (step wi wh b x' (step wi wh b x p)).2 := rfl
theorem pay42 (x'' : Vec F S1000x1x128 .f32) : k0_pay42 p.2 (g0 (zB wi wh b x p.1)) (logistic (s1 (zB wi wh b x p.1))) (g2 (zB wi wh b x p.1)) (g3 (zB wi wh b x p.1)) x' wi wh b x'' wi wh = addf (mx x'' wi) (mh (step wi wh b x' (step wi wh b x p)).1 wh) := rfl
theorem pay43 : k0_pay43 b = cb b := rfl
theorem pay47 : k0_pay47 p.2 (addf (mx x wi) (mh p.1 wh)) (cb b) x' wi wh b = (step wi wh b x' (step wi wh b x p)).2 := rfl
theorem pay48 : k0_pay48 p.2 (addf (mx x wi) (mh p.1 wh)) (cb b) x' wi wh b = (step wi wh b x' (step wi wh b x p)).1 := rfl
theorem pay49 : k0_pay49 x wi = mx x wi := rfl
theorem pay53 : k0_pay53 p.2 p.1 (mx x wi) wh b x' wi wh b = (step wi wh b x' (step wi wh b x p)).2 := rfl
theorem pay54 : k0_pay54 p.2 p.1 (mx x wi) wh b x' wi wh b = (step wi wh b x' (step wi wh b x p)).1 := rfl
theorem pay56 : k0_pay56 p.2 p.1 x wi wh b = (step wi wh b x p).2 := rfl
theorem pay57 : k0_pay57 p.2 p.1 x wi wh b x' wi wh b = zB wi wh b x' (step wi wh b x p).1 := rfl
theorem pay58 : k0_pay58 p.2 p.1 x wi wh b x' wi wh b = g0 (zB wi wh b x' (step wi wh b x p).1) := rfl
theorem pay59 : k0_pay59 p.2 p.1 x wi wh b x' wi wh b = s1 (zB wi wh b x' (step wi wh b x p).1) := rfl
theorem pay60 : k0_pay60 p.2 (zB wi wh b x p.1) (g0 (zB wi wh b x p.1)) (s1 (zB wi wh b x p.1)) x' wi wh b = (step wi wh b x' (step wi wh b x p)).1 := rfl

end Pay

/-! ## The body's values -/

section Chain

variable (x0 : Vec F S1000x20x128 .f32) (x1 x2 : Vec F S512x128 .f32) (x3 : Vec F S1x512 .f32)

/-- A load of one column of the block. -/
theorem ld_col (k : ℕ) (inb) : View.ld x0 (Rect.unit (s := S1000x20x128) ![0, k, 0] S1000x1x128.size inb) = col x0 k := by
  funext y
  have hk : k < 20 := by simpa using inb 1
  refine congrArg x0 (funext fun a => Fin.ext ?_)
  rw [Rect.idx_unit_val]
  have h1 : (y 1).val = 0 := by simpa using (y 1).isLt
  fin_cases a
  · simp [ix3]
  · simp [ix3, Nat.mod_eq_of_lt hk]
  · simp [ix3]

theorem ld_w (w : Vec F S512x128 .f32) : View.ld w r0_1 = w := View.ld_unit_lit _ _ (by decide)
theorem ld_b (w : Vec F S1x512 .f32) : View.ld w r0_2 = w := View.ld_unit_lit _ _ (by decide)

theorem e61 : k0_pay61 x0 x1 x2 x3 = (st x0 x1 x2 x3 1).2 := by
  rw [k0_pay61]; simp only [ld_col x0, ld_w, ld_b]; exact pay2 x1 x2 x3 (col x0 0)
theorem e62 : k0_pay62 x0 x1 x2 x3 = addf (mx (col x0 1) x1) (mh (st x0 x1 x2 x3 1).1 x2) := by
  rw [k0_pay62]; simp only [ld_col x0, ld_w, ld_b]; exact pay3 x1 x2 x3 (col x0 0) (col x0 1)
theorem e63 : k0_pay63 x0 x1 x2 x3 = cb x3 := by
  rw [k0_pay63]; simp only [ld_b]; exact pay4 x3
theorem e64 : k0_pay64 x0 x1 x2 x3 = (st x0 x1 x2 x3 3).2 := by
  rw [k0_pay64]; simp only [e61, e62, e63, ld_col x0, ld_w, ld_b]; exact pay8 x1 x2 x3 (col x0 1) (col x0 2) (st x0 x1 x2 x3 1)
theorem e65 : k0_pay65 x0 x1 x2 x3 = (st x0 x1 x2 x3 3).1 := by
  rw [k0_pay65]; simp only [e61, e62, e63, ld_col x0, ld_w, ld_b]; exact pay9 x1 x2 x3 (col x0 1) (col x0 2) (st x0 x1 x2 x3 1)
theorem e66 : k0_pay66 x0 x1 x2 x3 = mx (col x0 3) x1 := by
  rw [k0_pay66]; simp only [ld_col x0, ld_w]; exact pay10 x1 (col x0 3)
theorem e67 : k0_pay67 x0 x1 x2 x3 = (st x0 x1 x2 x3 5).2 := by
  rw [k0_pay67]; simp only [e64, e65, e66, ld_col x0, ld_w, ld_b]; exact pay14 x1 x2 x3 (col x0 3) (col x0 4) (st x0 x1 x2 x3 3)
theorem e68 : k0_pay68 x0 x1 x2 x3 = (st x0 x1 x2 x3 5).1 := by
  rw [k0_pay68]; simp only [e64, e65, e66, ld_col x0, ld_w, ld_b]; exact pay15 x1 x2 x3 (col x0 3) (col x0 4) (st x0 x1 x2 x3 3)
theorem e69 : k0_pay69 x0 x1 x2 x3 = (st x0 x1 x2 x3 6).2 := by
  rw [k0_pay69]; simp only [e67, e68, ld_col x0, ld_w, ld_b]; exact pay17 x1 x2 x3 (col x0 5) (st x0 x1 x2 x3 5)
theorem e70 : k0_pay70 x0 x1 x2 x3 = zB x1 x2 x3 (col x0 6) (st x0 x1 x2 x3 6).1 := by
  rw [k0_pay70]; simp only [e67, e68, ld_col x0, ld_w, ld_b]; exact pay18 x1 x2 x3 (col x0 5) (col x0 6) (st x0 x1 x2 x3 5)
theorem e71 : k0_pay71 x0 x1 x2 x3 = g0 (zB x1 x2 x3 (col x0 6) (st x0 x1 x2 x3 6).1) := by
  rw [k0_pay71]; simp only [e67, e68, ld_col x0, ld_w, ld_b]; exact pay19 x1 x2 x3 (col x0 5) (col x0 6) (st x0 x1 x2 x3 5)
theorem e72 : k0_pay72 x0 x1 x2 x3 = s1 (zB x1 x2 x3 (col x0 6) (st x0 x1 x2 x3 6).1) := by
  rw [k0_pay72]; simp only [e67, e68, ld_col x0, ld_w, ld_b]; exact pay20 x1 x2 x3 (col x0 5) (col x0 6) (st x0 x1 x2 x3 5)
theorem e73 : k0_pay73 x0 x1 x2 x3 = (st x0 x1 x2 x3 8).2 := by
  rw [k0_pay73]; simp only [e69, e70, e71, e72, ld_col x0, ld_w, ld_b]; exact pay23 x1 x2 x3 (col x0 6) (col x0 7) (st x0 x1 x2 x3 6)
theorem e74 : k0_pay74 x0 x1 x2 x3 = mx (col x0 8) x1 := by
  rw [k0_pay74]; simp only [ld_col x0, ld_w]; exact pay24 x1 (col x0 8)
theorem e75 : k0_pay75 x0 x1 x2 x3 = mh (st x0 x1 x2 x3 8).1 x2 := by
  rw [k0_pay75]; simp only [e69, e70, e71, e72, ld_col x0, ld_w, ld_b]; exact pay25 x1 x2 x3 (col x0 6) (col x0 7) (st x0 x1 x2 x3 6)
theorem e76 : k0_pay76 x0 x1 x2 x3 = (st x0 x1 x2 x3 10).2 := by
  rw [k0_pay76]; simp only [e73, e74, e75, ld_col x0, ld_w, ld_b]; exact pay29 x1 x2 x3 (col x0 8) (col x0 9) (st x0 x1 x2 x3 8)
theorem e77 : k0_pay77 x0 x1 x2 x3 = (st x0 x1 x2 x3 10).1 := by
  rw [k0_pay77]; simp only [e73, e74, e75, ld_col x0, ld_w, ld_b]; exact pay30 x1 x2 x3 (col x0 8) (col x0 9) (st x0 x1 x2 x3 8)
theorem e78 : k0_pay78 x0 x1 x2 x3 = k0_pay31 (col x0 10) := by
  rw [k0_pay78]; simp only [ld_col x0, ld_w]
theorem e79 : k0_pay79 x0 x1 x2 x3 = (st x0 x1 x2 x3 11).2 := by
  rw [k0_pay79]; simp only [e76, e77, e78, ld_w, ld_b]; exact pay33 x1 x2 x3 (col x0 10) (st x0 x1 x2 x3 10)
theorem e80 : k0_pay80 x0 x1 x2 x3 = g0 (zB x1 x2 x3 (col x0 11) (st x0 x1 x2 x3 11).1) := by
  rw [k0_pay80]; simp only [e76, e77, e78, ld_col x0, ld_w, ld_b]; exact pay35 x1 x2 x3 (col x0 10) (col x0 11) (st x0 x1 x2 x3 10)
theorem e81 : k0_pay81 x0 x1 x2 x3 = logistic (s1 (zB x1 x2 x3 (col x0 11) (st x0 x1 x2 x3 11).1)) := by
  rw [k0_pay81]; simp only [e76, e77, e78, ld_col x0, ld_w, ld_b]; exact pay36 x1 x2 x3 (col x0 10) (col x0 11) (st x0 x1 x2 x3 10)
theorem e82 : k0_pay82 x0 x1 x2 x3 = g2 (zB x1 x2 x3 (col x0 11) (st x0 x1 x2 x3 11).1) := by
  rw [k0_pay82]; simp only [e76, e77, e78, ld_col x0, ld_w, ld_b]; exact pay37 x1 x2 x3 (col x0 10) (col x0 11) (st x0 x1 x2 x3 10)
theorem e83 : k0_pay83 x0 x1 x2 x3 = g3 (zB x1 x2 x3 (col x0 11) (st x0 x1 x2 x3 11).1) := by
  rw [k0_pay83]; simp only [e76, e77, e78, ld_col x0, ld_w, ld_b]; exact pay38 x1 x2 x3 (col x0 10) (col x0 11) (st x0 x1 x2 x3 10)
theorem e84 : k0_pay84 x0 x1 x2 x3 = (st x0 x1 x2 x3 13).2 := by
  rw [k0_pay84]; simp only [e79, e80, e81, e82, e83, ld_col x0, ld_w, ld_b]; exact pay41 x1 x2 x3 (col x0 11) (col x0 12) (st x0 x1 x2 x3 11)
theorem e85 : k0_pay85 x0 x1 x2 x3 = addf (mx (col x0 13) x1) (mh (st x0 x1 x2 x3 13).1 x2) := by
  rw [k0_pay85]; simp only [e79, e80, e81, e82, e83, ld_col x0, ld_w, ld_b]; exact pay42 x1 x2 x3 (col x0 11) (col x0 12) (st x0 x1 x2 x3 11) (col x0 13)
theorem e86 : k0_pay86 x0 x1 x2 x3 = cb x3 := by
  rw [k0_pay86]; simp only [ld_b]; exact pay43 x3
theorem e87 : k0_pay87 x0 x1 x2 x3 = (st x0 x1 x2 x3 15).2 := by
  rw [k0_pay87]; simp only [e84, e85, e86, ld_col x0, ld_w, ld_b]; exact pay47 x1 x2 x3 (col x0 13) (col x0 14) (st x0 x1 x2 x3 13)
theorem e88 : k0_pay88 x0 x1 x2 x3 = (st x0 x1 x2 x3 15).1 := by
  rw [k0_pay88]; simp only [e84, e85, e86, ld_col x0, ld_w, ld_b]; exact pay48 x1 x2 x3 (col x0 13) (col x0 14) (st x0 x1 x2 x3 13)
theorem e89 : k0_pay89 x0 x1 x2 x3 = mx (col x0 15) x1 := by
  rw [k0_pay89]; simp only [ld_col x0, ld_w]; exact pay49 x1 (col x0 15)
theorem e90 : k0_pay90 x0 x1 x2 x3 = (st x0 x1 x2 x3 17).2 := by
  rw [k0_pay90]; simp only [e87, e88, e89, ld_col x0, ld_w, ld_b]; exact pay53 x1 x2 x3 (col x0 15) (col x0 16) (st x0 x1 x2 x3 15)
theorem e91 : k0_pay91 x0 x1 x2 x3 = (st x0 x1 x2 x3 17).1 := by
  rw [k0_pay91]; simp only [e87, e88, e89, ld_col x0, ld_w, ld_b]; exact pay54 x1 x2 x3 (col x0 15) (col x0 16) (st x0 x1 x2 x3 15)

/-- What the body stores is the hidden state after twenty steps. -/
theorem out : out0_4 x0 x1 x2 x3 = (st x0 x1 x2 x3 20).1 := by
  rw [out0_4]
  refine (View.canon_cons_unit_lit _ _ _ (by decide)).trans ?_
  simp only [e90, e91, ld_col x0, ld_w, ld_b]
  rw [pay56 x1 x2 x3 (col x0 17) (st x0 x1 x2 x3 17), pay57 x1 x2 x3 (col x0 17) (col x0 18) (st x0 x1 x2 x3 17),
    pay58 x1 x2 x3 (col x0 17) (col x0 18) (st x0 x1 x2 x3 17), pay59 x1 x2 x3 (col x0 17) (col x0 18) (st x0 x1 x2 x3 17)]
  exact pay60 x1 x2 x3 (col x0 18) (col x0 19) (st x0 x1 x2 x3 18)

end Chain

end Cert.Proof.LstmBlock

end
-- ==== Proof.Lstm.lean ====
/- Region 0: the array it leaves is the hidden state after twenty steps of the recurrent cell. -/
module

public import proofs.«01_k».proof.Proof.LstmBlock
public import proofs.«01_k».proof.Proof.Spec

@[expose] public section

set_option maxRecDepth 16384

noncomputable section

namespace Cert.Proof.Lstm

open Cert.KernelIdeal Cert.KernelIdeal.Gen
open Idealize.ShloMosaic Idealize.ShloMosaic.TcCoe Idealize.SL.Sem
open Idealize.ShloMosaic.Pipeline (Dat)
open Cert.Proof.LstmBlock

/-! ## One step, row by row -/

section Row

variable (wi wh : FVec Ideal S512x128 .f32) (bih bhh : FVec Ideal S512 .f32) (r : Fin 1000) (R : Fin 10000)

/-- The preactivations of a block's row are those of the array's row when the inputs and the states agree there. -/
theorem zRow (x : FVec Ideal S1000x1x128 .f32) (h : FVec Ideal S1000x128 .f32) (X H : FVec Ideal S10000x128 .f32)
    (hc : S512.ShapeCasts S1x512)
    (hx : ∀ k : Fin 128, x (ix3 r 0 k) = X (ix2 R k)) (hh : ∀ k : Fin 128, h (ix2 r k) = H (ix2 R k)) (j : Fin 512) :
    zB wi wh (shapeCast S1x512 (addf bih bhh) hc) x h (ix2 r j) = Spec.gates X wi wh bih bhh H (ix2 R j) := by
  pointwise [zB, mx, mh, cb, Spec.gates]
  simp only [hx, hh, add_assoc]

/-- The new cell state. -/
theorem cRow (z : FVec Ideal S1000x512 .f32) (c : FVec Ideal S1000x128 .f32) (Z : FVec Ideal Cert.ReferenceIdeal.S10000x512 .f32)
    (C : FVec Ideal S10000x128 .f32) (hz : ∀ j : Fin 512, z (ix2 r j) = Z (ix2 R j))
    (hc : ∀ k : Fin 128, c (ix2 r k) = C (ix2 R k)) (k : Fin 128) : cB z c (ix2 r k) = Spec.cell Z C (ix2 R k) := by
  pointwise [cB, s1, g0, g2, Spec.cell, Spec.sigma, Ideal.logistic]
  simp only [hz, hc]

/-- The new hidden state. -/
theorem hRow (z : FVec Ideal S1000x512 .f32) (c : FVec Ideal S1000x128 .f32) (Z : FVec Ideal Cert.ReferenceIdeal.S10000x512 .f32)
    (C : FVec Ideal S10000x128 .f32) (hz : ∀ j : Fin 512, z (ix2 r j) = Z (ix2 R j))
    (hc : ∀ k : Fin 128, c (ix2 r k) = C (ix2 R k)) (k : Fin 128) : hB z c (ix2 r k) = Spec.hidden Z C (ix2 R k) := by
  pointwise [hB, g3, Spec.hidden, Spec.sigma, Ideal.logistic]
  simp only [hz, hc]

/-- After any number of steps the two states agree on the row, when the sequences do. -/
theorem stRow (x0 : FVec Ideal S1000x20x128 .f32) (X : FVec Ideal S10000x20x128 .f32) (hc : S512.ShapeCasts S1x512)
    (hx : ∀ (n : Fin 20) (k : Fin 128), x0 (ix3 r n k) = X (ix3 R n k)) (n : ℕ) (k : Fin 128) :
    (st x0 wi wh (shapeCast S1x512 (addf bih bhh) hc) n).1 (ix2 r k) = (Spec.lstm X wi wh bih bhh n).1 (ix2 R k)
    ∧ (st x0 wi wh (shapeCast S1x512 (addf bih bhh) hc) n).2 (ix2 r k) = (Spec.lstm X wi wh bih bhh n).2 (ix2 R k) := by
  induction n generalizing k with
  | zero =>
    constructor
    · pointwise [st, start, Spec.lstm]
    · pointwise [st, start, Spec.lstm]
  | succ n ih =>
    have hx' : ∀ k : Fin 128, col (F := Ideal) x0 n (ix3 r 0 k) = Spec.column X n (ix2 R k) := fun k => hx (Fin.ofNat 20 n) k
    have hz := zRow wi wh bih bhh r R (col (F := Ideal) x0 n) _ (Spec.column X n) _ hc hx' fun k => (ih k).1
    have h2 := cRow r R _ _ _ _ hz fun k => (ih k).2
    exact ⟨hRow r R _ _ _ _ hz h2 k, h2 k⟩

end Row

/-! ## The array -/

variable (V : (c : Dev nD) → (b : Ref sig .tc) → Buf (Elt Ideal) ((c : Thread nD τ).loc b))

/-- The windows' block indices: rows move with the grid point, the weights and the bias stay. -/
theorem idx : ∀ t : Fin cfg0.N, win0_0.index t = ![t.val, 0, 0] ∧ win0_1.index t = ![0, 0] ∧ win0_2.index t = ![0, 0]
    ∧ win0_3.index t = ![0, 0] ∧ win0_4.index t = ![t.val, 0] :=
  (by decide +kernel : ∀ t : Fin grid0.N, _)

/-- The array row that row `r` of block `t` is. -/
def rowOf (t : Fin cfg0.N) (r : Fin 1000) : Fin 10000 :=
  ⟨t.val * 1000 + r.val, by have h : t.val < 10 := t.isLt; have := r.isLt; omega⟩

theorem blk_x (c : Dev nD) (t : Fin cfg0.N) (r : Fin 1000) (n : Fin 20) (k : Fin 128) :
    iblk0 V c 0 t (ix3 r n k) = V c main_arg0 (ix3 (rowOf t r) n k) := by
  blk_point [iblk0, idx t, rowOf]

theorem blk_wi (c : Dev nD) (t : Fin cfg0.N) : iblk0 V c 1 t = V c main_arg3 := by
  funext y
  blk_point [iblk0, idx t]

theorem blk_wh (c : Dev nD) (t : Fin cfg0.N) : iblk0 V c 2 t = V c main_arg4 := by
  funext y
  blk_point [iblk0, idx t]

theorem blk_b (c : Dev nD) (t : Fin cfg0.N) : iblk0 V c 3 t = V c main_v1 := by
  funext y
  blk_point [iblk0, idx t]

theorem emb_out (t : Fin cfg0.N) (r : Fin 1000) (k : Fin 128) :
    ((cfg0.win 4).blk t).view.emb (ix2 r k) = ix2 (rowOf t r) k := by
  blk_point [idx t, rowOf]

/-- What one grid point stores, at an index of its block. -/
theorem point (bih bhh : FVec Ideal S512 .f32) (hc : S512.ShapeCasts S1x512) (c : Dev nD) (t : Fin cfg0.N)
    (hb : V c main_v1 = shapeCast S1x512 (addf bih bhh) hc) (y) :
    out0_4 (iblk0 V c 0 t) (iblk0 V c 1 t) (iblk0 V c 2 t) (iblk0 V c 3 t) y
      = (Spec.lstm (V c main_arg0) (V c main_arg3) (V c main_arg4) bih bhh 20).1 (((cfg0.win 4).blk t).view.emb y) := by
  rw [out, blk_wi, blk_wh, blk_b, hb]
  idx_vars y
  rw [emb_out]
  exact (stRow _ _ bih bhh _ _ _ _ hc (blk_x V c t _) 20 _).1

/-- The array after the region. -/
theorem final (bih bhh : FVec Ideal S512 .f32) (hc : S512.ShapeCasts S1x512) (c : Dev nD)
    (hb : V c main_v1 = shapeCast S1x512 (addf bih bhh) hc) :
    (dat0 V c).arrAt 4 cfg0.N = (Spec.lstm (V c main_arg0) (V c main_arg3) (V c main_arg4) bih bhh 20).1 := by
  refine (dat0 V c).arrAt_eq_of_covers 4 _ (by decide +kernel) fun t _ y => ?_
  blk_simp
  rw [after0_4]
  exact point V bih bhh hc c t hb y

end Cert.Proof.Lstm

end
-- ==== Proof.Encode.lean ====
/- Region 1: the array it leaves is the contents' linear encoding. -/
module

public import proofs.«01_k».proof.Proof.Gen.KernelIdeal.Frame
public import proofs.«01_k».proof.Proof.Rows
public import Idealize.ShloMosaic.Lib.Pipeline.ValueKit

@[expose] public section

set_option maxRecDepth 16384

noncomputable section

namespace Cert.Proof.Encode

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The windows' block indices: rows move with the grid point, the weights and the bias stay. -/
theorem idx : ∀ t : Fin cfg1.N, win1_0.index t = ![t.val, 0] ∧ win1_1.index t = ![0, 0] ∧ win1_2.index t = ![0, 0]
    ∧ win1_3.index t = ![t.val, 0] :=
  (by decide +kernel : ∀ t : Fin grid1.N, _)

/-- What one grid point stores, at an index of its block. -/
theorem point (c : Dev nD) (t : Fin cfg1.N) (y) :
    k1_pay1 (F := Ideal) (iblk1 V c 0 t) (iblk1 V c 1 t) (iblk1 V c 2 t) y
      = Spec.encodeRow (V c main_arg1) (V c main_arg7) (V c main_v3) (((cfg1.win 3).blk t).view.emb y) := by
  pointwise [k1_pay1, Spec.encodeRow]
  blk_point [iblk1, idx t]

/-- The array after the region. -/
theorem final (c : Dev nD) :
    (dat1 V c).arrAt 3 cfg1.N = Spec.encodeRow (V c main_arg1) (V c main_arg7) (V c main_v3) := by
  refine (dat1 V c).arrAt_eq_of_covers 3 _ (by decide +kernel) fun t _ y => ?_
  blk_simp
  rw [after1_3]; frame_out
  exact point V c t y

end Cert.Proof.Encode

end
-- ==== Proof.Layers.lean ====
/- Regions 2 to 5: the array each leaves is one aggregation layer of the arrays it is entered with. -/
module

public import proofs.«01_k».proof.Proof.Gen.KernelIdeal.Frame
public import proofs.«01_k».proof.Proof.Rows
public import Idealize.ShloMosaic.Lib.Pipeline.ValueKit

@[expose] public section

set_option maxRecDepth 16384

noncomputable section

namespace Cert.Proof.Layers

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Region 2's block indices: the row windows move with the grid point, the weights and the bias stay. -/
theorem idx2 : ∀ t : Fin cfg2.N, win2_0.index t = ![t.val, 0] ∧ win2_1.index t = ![t.val, 0]
    ∧ win2_2.index t = ![t.val, 0] ∧ win2_3.index t = ![0, 0] ∧ win2_4.index t = ![0, 0] ∧ win2_5.index t = ![0, 0]
    ∧ win2_6.index t = ![t.val, 0] :=
  (by decide +kernel : ∀ t : Fin grid2.N, _)

/-- What one grid point of region 2 stores, at an index of its block. -/
theorem point2 (c : Dev nD) (t : Fin cfg2.N) (y) :
    k2_pay1 (F := Ideal) (iblk2 V c 0 t) (iblk2 V c 1 t) (iblk2 V c 3 t) (iblk2 V c 5 t) (iblk2 V c 2 t) (iblk2 V c 4 t) y
      = Spec.sageRow (V c main_v27) (V c main_v13) (V c main_v4) (V c main_arg9) (V c main_arg10) (V c main_v38)
          (((cfg2.win 6).blk t).view.emb y) := by
  pointwise [k2_pay1, Spec.sageRow]
  blk_point [iblk2, idx2 t]

/-- The array after region 2. -/
theorem final2 (c : Dev nD) : (dat2 V c).arrAt 6 cfg2.N
    = Spec.sageRow (V c main_v27) (V c main_v13) (V c main_v4) (V c main_arg9) (V c main_arg10) (V c main_v38) := by
  refine (dat2 V c).arrAt_eq_of_covers 6 _ (by decide +kernel) fun t _ y => ?_
  blk_simp
  rw [after2_6]; frame_out
  exact point2 V c t y

/-- Region 3's block indices: the row windows move with the grid point, the weights and the bias stay. -/
theorem idx3 : ∀ t : Fin cfg3.N, win3_0.index t = ![t.val, 0] ∧ win3_1.index t = ![t.val, 0]
    ∧ win3_2.index t = ![t.val, 0] ∧ win3_3.index t = ![0, 0] ∧ win3_4.index t = ![0, 0] ∧ win3_5.index t = ![0, 0]
    ∧ win3_6.index t = ![t.val, 0] :=
  (by decide +kernel : ∀ t : Fin grid3.N, _)

/-- What one grid point of region 3 stores, at an index of its block. -/
theorem point3 (c : Dev nD) (t : Fin cfg3.N) (y) :
    k3_pay1 (F := Ideal) (iblk3 V c 0 t) (iblk3 V c 1 t) (iblk3 V c 3 t) (iblk3 V c 5 t) (iblk3 V c 2 t) (iblk3 V c 4 t) y
      = Spec.sageRow (V c main_v37) (V c main_v17) (V c main_v2) (V c main_arg9) (V c main_arg10) (V c main_v40)
          (((cfg3.win 6).blk t).view.emb y) := by
  pointwise [k3_pay1, Spec.sageRow]
  blk_point [iblk3, idx3 t]

/-- The array after region 3. -/
theorem final3 (c : Dev nD) : (dat3 V c).arrAt 6 cfg3.N
    = Spec.sageRow (V c main_v37) (V c main_v17) (V c main_v2) (V c main_arg9) (V c main_arg10) (V c main_v40) := by
  refine (dat3 V c).arrAt_eq_of_covers 6 _ (by decide +kernel) fun t _ y => ?_
  blk_simp
  rw [after3_6]; frame_out
  exact point3 V c t y

/-- Region 4's block indices: the row windows move with the grid point, the weights and the bias stay. -/
theorem idx4 : ∀ t : Fin cfg4.N, win4_0.index t = ![t.val, 0] ∧ win4_1.index t = ![t.val, 0]
    ∧ win4_2.index t = ![t.val, 0] ∧ win4_3.index t = ![0, 0] ∧ win4_4.index t = ![0, 0] ∧ win4_5.index t = ![0, 0]
    ∧ win4_6.index t = ![t.val, 0] :=
  (by decide +kernel : ∀ t : Fin grid4.N, _)

/-- What one grid point of region 4 stores, at an index of its block. -/
theorem point4 (c : Dev nD) (t : Fin cfg4.N) (y) :
    k4_pay1 (F := Ideal) (iblk4 V c 0 t) (iblk4 V c 1 t) (iblk4 V c 3 t) (iblk4 V c 5 t) (iblk4 V c 2 t) (iblk4 V c 4 t) y
      = Spec.sageRow (V c main_v51) (V c main_v13) (V c main_v39) (V c main_arg12) (V c main_arg13) (V c main_v62)
          (((cfg4.win 6).blk t).view.emb y) := by
  pointwise [k4_pay1, Spec.sageRow]
  blk_point [iblk4, idx4 t]

/-- The array after region 4. -/
theorem final4 (c : Dev nD) : (dat4 V c).arrAt 6 cfg4.N
    = Spec.sageRow (V c main_v51) (V c main_v13) (V c main_v39) (V c main_arg12) (V c main_arg13) (V c main_v62) := by
  refine (dat4 V c).arrAt_eq_of_covers 6 _ (by decide +kernel) fun t _ y => ?_
  blk_simp
  rw [after4_6]; frame_out
  exact point4 V c t y

/-- Region 5's block indices: the row windows move with the grid point, the weights and the bias stay. -/
theorem idx5 : ∀ t : Fin cfg5.N, win5_0.index t = ![t.val, 0] ∧ win5_1.index t = ![t.val, 0]
    ∧ win5_2.index t = ![t.val, 0] ∧ win5_3.index t = ![0, 0] ∧ win5_4.index t = ![0, 0] ∧ win5_5.index t = ![0, 0]
    ∧ win5_6.index t = ![t.val, 0] :=
  (by decide +kernel : ∀ t : Fin grid5.N, _)

/-- What one grid point of region 5 stores, at an index of its block. -/
theorem point5 (c : Dev nD) (t : Fin cfg5.N) (y) :
    k5_pay1 (F := Ideal) (iblk5 V c 0 t) (iblk5 V c 1 t) (iblk5 V c 3 t) (iblk5 V c 5 t) (iblk5 V c 2 t) (iblk5 V c 4 t) y
      = Spec.sageRow (V c main_v61) (V c main_v17) (V c main_v41) (V c main_arg12) (V c main_arg13) (V c main_v64)
          (((cfg5.win 6).blk t).view.emb y) := by
  pointwise [k5_pay1, Spec.sageRow]
  blk_point [iblk5, idx5 t]

/-- The array after region 5. -/
theorem final5 (c : Dev nD) : (dat5 V c).arrAt 6 cfg5.N
    = Spec.sageRow (V c main_v61) (V c main_v17) (V c main_v41) (V c main_arg12) (V c main_arg13) (V c main_v64) := by
  refine (dat5 V c).arrAt_eq_of_covers 6 _ (by decide +kernel) fun t _ y => ?_
  blk_simp
  rw [after5_6]; frame_out
  exact point5 V c t y

end Cert.Proof.Layers

end
-- ==== Proof.Classify.lean ====
/- Region 6: the array it leaves is the classifier of the two embeddings. -/
module

public import proofs.«01_k».proof.Proof.Gen.KernelIdeal.Frame
public import proofs.«01_k».proof.Proof.Rows
public import Idealize.ShloMosaic.Lib.Pipeline.ValueKit

@[expose] public section

set_option maxRecDepth 16384

noncomputable section

namespace Cert.Proof.Classify

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The windows' block indices: the row windows move with the grid point, the weights and the biases stay. -/
theorem idx : ∀ t : Fin cfg6.N, win6_0.index t = ![t.val, 0] ∧ win6_1.index t = ![t.val, 0] ∧ win6_2.index t = ![0, 0]
    ∧ win6_3.index t = ![0, 0] ∧ win6_4.index t = ![0, 0] ∧ win6_5.index t = ![0, 0] ∧ win6_6.index t = ![0, 0]
    ∧ win6_7.index t = ![t.val, 0] :=
  (by decide +kernel : ∀ t : Fin grid6.N, _)

/-- What one grid point stores, at an index of its block. -/
theorem point (c : Dev nD) (t : Fin cfg6.N) (y) :
    k6_pay1 (F := Ideal) (iblk6 V c 0 t) (iblk6 V c 2 t) (iblk6 V c 1 t) (iblk6 V c 3 t) (iblk6 V c 4 t) (iblk6 V c 5 t)
        (iblk6 V c 6 t) y
      = Spec.classifyRow (V c main_v65) (V c main_v63) (V c main_v68) (V c main_v69) (V c main_v66) (V c main_arg17)
          (V c main_v67) (((cfg6.win 7).blk t).view.emb y) := by
  pointwise [k6_pay1, Spec.classifyRow, Ideal.logistic]
  blk_point [iblk6, idx t]

/-- The array after the region. -/
theorem final (c : Dev nD) : (dat6 V c).arrAt 7 cfg6.N
    = Spec.classifyRow (V c main_v65) (V c main_v63) (V c main_v68) (V c main_v69) (V c main_v66) (V c main_arg17)
        (V c main_v67) := by
  refine (dat6 V c).arrAt_eq_of_covers 7 _ (by decide +kernel) fun t _ y => ?_
  blk_simp
  rw [after6_7]; frame_out
  exact point V c t y

end Cert.Proof.Classify

end
-- ==== Proof.KernelValue.lean ====
/- The kernel's result over its arguments: each region's array is passed on to the stretches and regions that read it. -/
module

public import proofs.«01_k».proof.Proof.HostReads
public import proofs.«01_k».proof.Proof.Rows
public import proofs.«01_k».proof.Proof.Lstm
public import proofs.«01_k».proof.Proof.Encode
public import proofs.«01_k».proof.Proof.Layers
public import proofs.«01_k».proof.Proof.Classify

@[expose] public section

set_option maxRecDepth 16384

noncomputable section

namespace Cert.Proof.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- An argument's contents at the launch. -/
abbrev arg (b : Ref sig .tc) : Buf (Elt Ideal) ((c : Thread nD τ).loc b) := m ((c : Thread nD τ).loc b)

/-! ## The arrays between the regions -/

/-- The users' embedding: the recurrent cell's last hidden state. -/
def U0 : FVec Ideal S10000x128 .f32 :=
  (Spec.lstm (arg m c main_arg0) (arg m c main_arg3) (arg m c main_arg4) (arg m c main_arg5) (arg m c main_arg6) 20).1

/-- The contents' encoding. -/
def C0 : FVec Ideal S10000x128 .f32 := Spec.encode (arg m c main_arg1) (arg m c main_arg7) (arg m c main_arg8)

/-- The edges' two ends. -/
def R0 : IVec S320000 32 := Spec.row0 (arg m c main_arg2)
def R1 : IVec S320000 32 := Spec.row1 (arg m c main_arg2)

/-- The embeddings after each layer. -/
def C1 : FVec Ideal S10000x128 .f32 :=
  Spec.sage (Spec.agg (U0 m c) (R0 m c) (R1 m c)) (Spec.degree (R1 m c)) (C0 m c) (arg m c main_arg9) (arg m c main_arg10) (arg m c main_arg11)
def U1 : FVec Ideal S10000x128 .f32 :=
  Spec.sage (Spec.agg (C0 m c) (R1 m c) (R0 m c)) (Spec.degree (R0 m c)) (U0 m c) (arg m c main_arg9) (arg m c main_arg10) (arg m c main_arg11)
def C2 : FVec Ideal S10000x128 .f32 :=
  Spec.sage (Spec.agg (U1 m c) (R0 m c) (R1 m c)) (Spec.degree (R1 m c)) (C1 m c) (arg m c main_arg12) (arg m c main_arg13) (arg m c main_arg14)
def U2 : FVec Ideal S10000x128 .f32 :=
  Spec.sage (Spec.agg (C1 m c) (R1 m c) (R0 m c)) (Spec.degree (R0 m c)) (U1 m c) (arg m c main_arg12) (arg m c main_arg13) (arg m c main_arg14)

/-! ## Region 0 -/

theorem w1_v1 : W1 m ρ c (Proc.devRef .tc main_v1) = shapeCast S1x512 (addf (F := Ideal) (φ := .f32) (s := S512) (arg m c main_arg5) (arg m c main_arg6)) shapeCasts_S512_S1x512 := by
  refine (HostReads.v1 (W0 m ρ c)).trans ?_
  rw [W0_args m ρ c main_arg5 (by decide), W0_args m ρ c main_arg6 (by decide)]

/-! ## The recurrent cell -/

theorem w2_v2 : W2 m ρ c (Proc.devRef .tc main_v2) = U0 m c := by
  refine (W2_arr m ρ c 4).trans ((Lstm.final (V1 m ρ) (arg m c main_arg5) (arg m c main_arg6) shapeCasts_S512_S1x512 c (w1_v1 m ρ c)).trans ?_)
  rw [show V1 m ρ c main_arg0 = _ from W1_args m ρ c main_arg0 (by decide),
    show V1 m ρ c main_arg3 = _ from W1_args m ρ c main_arg3 (by decide),
    show V1 m ρ c main_arg4 = _ from W1_args m ρ c main_arg4 (by decide)]
  rfl
theorem w3_v3 : W3 m ρ c (Proc.devRef .tc main_v3) = shapeCast S1x128 (arg m c main_arg8) shapeCasts_S128_S1x128 := by
  refine (HostReads.v3 (W2 m ρ c)).trans ?_
  rw [W2_args m ρ c main_arg8 (by decide)]

/-! ## The encoding -/

theorem w4_v4 : W4 m ρ c (Proc.devRef .tc main_v4) = C0 m c := by
  refine (W4_arr m ρ c 3).trans ((Encode.final (V3 m ρ) c).trans ?_)
  rw [show V3 m ρ c main_v3 = _ from w3_v3 m ρ c,
    show V3 m ρ c main_arg1 = _ from W3_args m ρ c main_arg1 (by decide),
    show V3 m ρ c main_arg7 = _ from W3_args m ρ c main_arg7 (by decide)]
  exact Spec.encodeRow_eq _ _ _ _
theorem w5_v6 : W5 m ρ c (Proc.devRef .tc main_v6) = R0 m c := by
  refine (HostReads.v6 (W4 m ρ c)).trans ?_
  rw [W4_args m ρ c main_arg2 (by decide)]; rfl
theorem w5_v8 : W5 m ρ c (Proc.devRef .tc main_v8) = R1 m c := by
  refine (HostReads.v8 (W4 m ρ c)).trans ?_
  rw [W4_args m ρ c main_arg2 (by decide)]; rfl
theorem w5_v13 : W5 m ρ c (Proc.devRef .tc main_v13) = shapeCast S10000x1 (Spec.degree (R1 m c)) shapeCasts_S10000_S10000x1 := by
  refine (HostReads.v13 (W4 m ρ c)).trans ?_
  rw [W4_args m ρ c main_arg2 (by decide)]; rfl
theorem w5_v17 : W5 m ρ c (Proc.devRef .tc main_v17) = shapeCast S10000x1 (Spec.degree (R0 m c)) shapeCasts_S10000_S10000x1 := by
  refine (HostReads.v17 (W4 m ρ c)).trans ?_
  rw [W4_args m ρ c main_arg2 (by decide)]; rfl
theorem w3_v2 : W3 m ρ c (Proc.devRef .tc main_v2) = U0 m c := by
  exact (W3_of m ρ c main_v2 (by decide +kernel)).trans (w2_v2 m ρ c)
theorem w4_v2 : W4 m ρ c (Proc.devRef .tc main_v2) = U0 m c := by
  exact (W4_of m ρ c main_v2 (by decide +kernel)).trans (w3_v2 m ρ c)
theorem w5_v27 : W5 m ρ c (Proc.devRef .tc main_v27) = Spec.agg (U0 m c) (R0 m c) (R1 m c) := by
  refine (HostReads.v27 (W4 m ρ c)).trans ?_
  rw [W4_args m ρ c main_arg2 (by decide), w4_v2]; rfl
theorem w5_v37 : W5 m ρ c (Proc.devRef .tc main_v37) = Spec.agg (C0 m c) (R1 m c) (R0 m c) := by
  refine (HostReads.v37 (W4 m ρ c)).trans ?_
  rw [W4_args m ρ c main_arg2 (by decide), w4_v4]; rfl
theorem w5_v38 : W5 m ρ c (Proc.devRef .tc main_v38) = shapeCast S1x128 (arg m c main_arg11) shapeCasts_S128_S1x128 := by
  refine (HostReads.v38 (W4 m ρ c)).trans ?_
  rw [W4_args m ρ c main_arg11 (by decide)]
theorem w5_v4 : W5 m ρ c (Proc.devRef .tc main_v4) = C0 m c := by
  exact (W5_of m ρ c main_v4 (by decide +kernel)).trans (w4_v4 m ρ c)

/-! ## First layer, contents -/

theorem w6_v39 : W6 m ρ c (Proc.devRef .tc main_v39) = C1 m c := by
  refine (W6_arr m ρ c 6).trans ((Layers.final2 (V5 m ρ) c).trans ?_)
  rw [show V5 m ρ c main_v27 = _ from w5_v27 m ρ c,
    show V5 m ρ c main_v13 = _ from w5_v13 m ρ c,
    show V5 m ρ c main_v4 = _ from w5_v4 m ρ c,
    show V5 m ρ c main_v38 = _ from w5_v38 m ρ c,
    show V5 m ρ c main_arg9 = _ from W5_args m ρ c main_arg9 (by decide),
    show V5 m ρ c main_arg10 = _ from W5_args m ρ c main_arg10 (by decide)]
  exact Spec.sageRow_eq _ _ _ _ _ _ _ _
theorem w7_v40 : W7 m ρ c (Proc.devRef .tc main_v40) = shapeCast S1x128 (arg m c main_arg11) shapeCasts_S128_S1x128 := by
  refine (HostReads.v40 (W6 m ρ c)).trans ?_
  rw [W6_args m ρ c main_arg11 (by decide)]
theorem w6_v37 : W6 m ρ c (Proc.devRef .tc main_v37) = Spec.agg (C0 m c) (R1 m c) (R0 m c) := by
  exact (W6_of m ρ c main_v37 (by decide +kernel)).trans (w5_v37 m ρ c)
theorem w7_v37 : W7 m ρ c (Proc.devRef .tc main_v37) = Spec.agg (C0 m c) (R1 m c) (R0 m c) := by
  exact (W7_of m ρ c main_v37 (by decide +kernel)).trans (w6_v37 m ρ c)
theorem w6_v17 : W6 m ρ c (Proc.devRef .tc main_v17) = shapeCast S10000x1 (Spec.degree (R0 m c)) shapeCasts_S10000_S10000x1 := by
  exact (W6_of m ρ c main_v17 (by decide +kernel)).trans (w5_v17 m ρ c)
theorem w7_v17 : W7 m ρ c (Proc.devRef .tc main_v17) = shapeCast S10000x1 (Spec.degree (R0 m c)) shapeCasts_S10000_S10000x1 := by
  exact (W7_of m ρ c main_v17 (by decide +kernel)).trans (w6_v17 m ρ c)
theorem w5_v2 : W5 m ρ c (Proc.devRef .tc main_v2) = U0 m c := by
  exact (W5_of m ρ c main_v2 (by decide +kernel)).trans (w4_v2 m ρ c)
theorem w6_v2 : W6 m ρ c (Proc.devRef .tc main_v2) = U0 m c := by
  exact (W6_of m ρ c main_v2 (by decide +kernel)).trans (w5_v2 m ρ c)
theorem w7_v2 : W7 m ρ c (Proc.devRef .tc main_v2) = U0 m c := by
  exact (W7_of m ρ c main_v2 (by decide +kernel)).trans (w6_v2 m ρ c)

/-! ## First layer, users -/

theorem w8_v41 : W8 m ρ c (Proc.devRef .tc main_v41) = U1 m c := by
  refine (W8_arr m ρ c 6).trans ((Layers.final3 (V7 m ρ) c).trans ?_)
  rw [show V7 m ρ c main_v37 = _ from w7_v37 m ρ c,
    show V7 m ρ c main_v17 = _ from w7_v17 m ρ c,
    show V7 m ρ c main_v2 = _ from w7_v2 m ρ c,
    show V7 m ρ c main_v40 = _ from w7_v40 m ρ c,
    show V7 m ρ c main_arg9 = _ from W7_args m ρ c main_arg9 (by decide),
    show V7 m ρ c main_arg10 = _ from W7_args m ρ c main_arg10 (by decide)]
  exact Spec.sageRow_eq _ _ _ _ _ _ _ _
theorem w6_v6 : W6 m ρ c (Proc.devRef .tc main_v6) = R0 m c := by
  exact (W6_of m ρ c main_v6 (by decide +kernel)).trans (w5_v6 m ρ c)
theorem w7_v6 : W7 m ρ c (Proc.devRef .tc main_v6) = R0 m c := by
  exact (W7_of m ρ c main_v6 (by decide +kernel)).trans (w6_v6 m ρ c)
theorem w8_v6 : W8 m ρ c (Proc.devRef .tc main_v6) = R0 m c := by
  exact (W8_of m ρ c main_v6 (by decide +kernel)).trans (w7_v6 m ρ c)
theorem w6_v8 : W6 m ρ c (Proc.devRef .tc main_v8) = R1 m c := by
  exact (W6_of m ρ c main_v8 (by decide +kernel)).trans (w5_v8 m ρ c)
theorem w7_v8 : W7 m ρ c (Proc.devRef .tc main_v8) = R1 m c := by
  exact (W7_of m ρ c main_v8 (by decide +kernel)).trans (w6_v8 m ρ c)
theorem w8_v8 : W8 m ρ c (Proc.devRef .tc main_v8) = R1 m c := by
  exact (W8_of m ρ c main_v8 (by decide +kernel)).trans (w7_v8 m ρ c)
theorem w9_v51 : W9 m ρ c (Proc.devRef .tc main_v51) = Spec.agg (U1 m c) (R0 m c) (R1 m c) := by
  refine (HostReads.v51 (W8 m ρ c)).trans ?_
  rw [w8_v41, w8_v6, w8_v8]
theorem w7_v39 : W7 m ρ c (Proc.devRef .tc main_v39) = C1 m c := by
  exact (W7_of m ρ c main_v39 (by decide +kernel)).trans (w6_v39 m ρ c)
theorem w8_v39 : W8 m ρ c (Proc.devRef .tc main_v39) = C1 m c := by
  exact (W8_of m ρ c main_v39 (by decide +kernel)).trans (w7_v39 m ρ c)
theorem w9_v61 : W9 m ρ c (Proc.devRef .tc main_v61) = Spec.agg (C1 m c) (R1 m c) (R0 m c) := by
  refine (HostReads.v61 (W8 m ρ c)).trans ?_
  rw [w8_v39, w8_v8, w8_v6]
theorem w9_v62 : W9 m ρ c (Proc.devRef .tc main_v62) = shapeCast S1x128 (arg m c main_arg14) shapeCasts_S128_S1x128 := by
  refine (HostReads.v62 (W8 m ρ c)).trans ?_
  rw [W8_args m ρ c main_arg14 (by decide)]
theorem w6_v13 : W6 m ρ c (Proc.devRef .tc main_v13) = shapeCast S10000x1 (Spec.degree (R1 m c)) shapeCasts_S10000_S10000x1 := by
  exact (W6_of m ρ c main_v13 (by decide +kernel)).trans (w5_v13 m ρ c)
theorem w7_v13 : W7 m ρ c (Proc.devRef .tc main_v13) = shapeCast S10000x1 (Spec.degree (R1 m c)) shapeCasts_S10000_S10000x1 := by
  exact (W7_of m ρ c main_v13 (by decide +kernel)).trans (w6_v13 m ρ c)
theorem w8_v13 : W8 m ρ c (Proc.devRef .tc main_v13) = shapeCast S10000x1 (Spec.degree (R1 m c)) shapeCasts_S10000_S10000x1 := by
  exact (W8_of m ρ c main_v13 (by decide +kernel)).trans (w7_v13 m ρ c)
theorem w9_v13 : W9 m ρ c (Proc.devRef .tc main_v13) = shapeCast S10000x1 (Spec.degree (R1 m c)) shapeCasts_S10000_S10000x1 := by
  exact (W9_of m ρ c main_v13 (by decide +kernel)).trans (w8_v13 m ρ c)
theorem w9_v39 : W9 m ρ c (Proc.devRef .tc main_v39) = C1 m c := by
  exact (W9_of m ρ c main_v39 (by decide +kernel)).trans (w8_v39 m ρ c)

/-! ## Second layer, contents -/

theorem w10_v63 : W10 m ρ c (Proc.devRef .tc main_v63) = C2 m c := by
  refine (W10_arr m ρ c 6).trans ((Layers.final4 (V9 m ρ) c).trans ?_)
  rw [show V9 m ρ c main_v51 = _ from w9_v51 m ρ c,
    show V9 m ρ c main_v13 = _ from w9_v13 m ρ c,
    show V9 m ρ c main_v39 = _ from w9_v39 m ρ c,
    show V9 m ρ c main_v62 = _ from w9_v62 m ρ c,
    show V9 m ρ c main_arg12 = _ from W9_args m ρ c main_arg12 (by decide),
    show V9 m ρ c main_arg13 = _ from W9_args m ρ c main_arg13 (by decide)]
  exact Spec.sageRow_eq _ _ _ _ _ _ _ _
theorem w11_v64 : W11 m ρ c (Proc.devRef .tc main_v64) = shapeCast S1x128 (arg m c main_arg14) shapeCasts_S128_S1x128 := by
  refine (HostReads.v64 (W10 m ρ c)).trans ?_
  rw [W10_args m ρ c main_arg14 (by decide)]
theorem w10_v61 : W10 m ρ c (Proc.devRef .tc main_v61) = Spec.agg (C1 m c) (R1 m c) (R0 m c) := by
  exact (W10_of m ρ c main_v61 (by decide +kernel)).trans (w9_v61 m ρ c)
theorem w11_v61 : W11 m ρ c (Proc.devRef .tc main_v61) = Spec.agg (C1 m c) (R1 m c) (R0 m c) := by
  exact (W11_of m ρ c main_v61 (by decide +kernel)).trans (w10_v61 m ρ c)
theorem w8_v17 : W8 m ρ c (Proc.devRef .tc main_v17) = shapeCast S10000x1 (Spec.degree (R0 m c)) shapeCasts_S10000_S10000x1 := by
  exact (W8_of m ρ c main_v17 (by decide +kernel)).trans (w7_v17 m ρ c)
theorem w9_v17 : W9 m ρ c (Proc.devRef .tc main_v17) = shapeCast S10000x1 (Spec.degree (R0 m c)) shapeCasts_S10000_S10000x1 := by
  exact (W9_of m ρ c main_v17 (by decide +kernel)).trans (w8_v17 m ρ c)
theorem w10_v17 : W10 m ρ c (Proc.devRef .tc main_v17) = shapeCast S10000x1 (Spec.degree (R0 m c)) shapeCasts_S10000_S10000x1 := by
  exact (W10_of m ρ c main_v17 (by decide +kernel)).trans (w9_v17 m ρ c)
theorem w11_v17 : W11 m ρ c (Proc.devRef .tc main_v17) = shapeCast S10000x1 (Spec.degree (R0 m c)) shapeCasts_S10000_S10000x1 := by
  exact (W11_of m ρ c main_v17 (by decide +kernel)).trans (w10_v17 m ρ c)
theorem w9_v41 : W9 m ρ c (Proc.devRef .tc main_v41) = U1 m c := by
  exact (W9_of m ρ c main_v41 (by decide +kernel)).trans (w8_v41 m ρ c)
theorem w10_v41 : W10 m ρ c (Proc.devRef .tc main_v41) = U1 m c := by
  exact (W10_of m ρ c main_v41 (by decide +kernel)).trans (w9_v41 m ρ c)
theorem w11_v41 : W11 m ρ c (Proc.devRef .tc main_v41) = U1 m c := by
  exact (W11_of m ρ c main_v41 (by decide +kernel)).trans (w10_v41 m ρ c)

/-! ## Second layer, users -/

theorem w12_v65 : W12 m ρ c (Proc.devRef .tc main_v65) = U2 m c := by
  refine (W12_arr m ρ c 6).trans ((Layers.final5 (V11 m ρ) c).trans ?_)
  rw [show V11 m ρ c main_v61 = _ from w11_v61 m ρ c,
    show V11 m ρ c main_v17 = _ from w11_v17 m ρ c,
    show V11 m ρ c main_v41 = _ from w11_v41 m ρ c,
    show V11 m ρ c main_v64 = _ from w11_v64 m ρ c,
    show V11 m ρ c main_arg12 = _ from W11_args m ρ c main_arg12 (by decide),
    show V11 m ρ c main_arg13 = _ from W11_args m ρ c main_arg13 (by decide)]
  exact Spec.sageRow_eq _ _ _ _ _ _ _ _
theorem w13_v66 : W13 m ρ c (Proc.devRef .tc main_v66) = shapeCast S1x128 (arg m c main_arg16) shapeCasts_S128_S1x128 := by
  refine (HostReads.v66 (W12 m ρ c)).trans ?_
  rw [W12_args m ρ c main_arg16 (by decide)]
theorem w13_v67 : W13 m ρ c (Proc.devRef .tc main_v67) = shapeCast S1x1 (arg m c main_arg18) shapeCasts_S1_S1x1 := by
  refine (HostReads.v67 (W12 m ρ c)).trans ?_
  rw [W12_args m ρ c main_arg18 (by decide)]
theorem w13_v68 : W13 m ρ c (Proc.devRef .tc main_v68) = extractStridedSlice S128x128 ![0, 0] (arg m c main_arg15) slices_S128x256_S128x128_0_0 := by
  refine (HostReads.v68 (W12 m ρ c)).trans ?_
  rw [W12_args m ρ c main_arg15 (by decide)]
theorem w13_v69 : W13 m ρ c (Proc.devRef .tc main_v69) = extractStridedSlice S128x128 ![0, 128] (arg m c main_arg15) slices_S128x256_S128x128_0_128 := by
  refine (HostReads.v69 (W12 m ρ c)).trans ?_
  rw [W12_args m ρ c main_arg15 (by decide)]
theorem w13_v65 : W13 m ρ c (Proc.devRef .tc main_v65) = U2 m c := by
  exact (W13_of m ρ c main_v65 (by decide +kernel)).trans (w12_v65 m ρ c)
theorem w11_v63 : W11 m ρ c (Proc.devRef .tc main_v63) = C2 m c := by
  exact (W11_of m ρ c main_v63 (by decide +kernel)).trans (w10_v63 m ρ c)
theorem w12_v63 : W12 m ρ c (Proc.devRef .tc main_v63) = C2 m c := by
  exact (W12_of m ρ c main_v63 (by decide +kernel)).trans (w11_v63 m ρ c)
theorem w13_v63 : W13 m ρ c (Proc.devRef .tc main_v63) = C2 m c := by
  exact (W13_of m ρ c main_v63 (by decide +kernel)).trans (w12_v63 m ρ c)

/-! ## The classifier -/

theorem w14_v70 : W14 m ρ c (Proc.devRef .tc main_v70) = Spec.classify (U2 m c) (C2 m c) (arg m c main_arg15) (arg m c main_arg16) (arg m c main_arg17) (arg m c main_arg18) := by
  refine (W14_arr m ρ c 7).trans ((Classify.final (V13 m ρ) c).trans ?_)
  rw [show V13 m ρ c main_v65 = _ from w13_v65 m ρ c,
    show V13 m ρ c main_v63 = _ from w13_v63 m ρ c,
    show V13 m ρ c main_v68 = _ from w13_v68 m ρ c,
    show V13 m ρ c main_v69 = _ from w13_v69 m ρ c,
    show V13 m ρ c main_v66 = _ from w13_v66 m ρ c,
    show V13 m ρ c main_v67 = _ from w13_v67 m ρ c,
    show V13 m ρ c main_arg17 = _ from W13_args m ρ c main_arg17 (by decide)]
  exact Spec.classifyRow_eq _ _ _ _ _ _ _ _ _ _

/-- The kernel's result over its arguments. -/
theorem result : W14 m ρ c (Proc.devRef .tc main_v70)
    = Spec.network (Spec.lstm (arg m c main_arg0) (arg m c main_arg3) (arg m c main_arg4) (arg m c main_arg5)
          (arg m c main_arg6) 20).1
        (Spec.encode (arg m c main_arg1) (arg m c main_arg7) (arg m c main_arg8)) (arg m c main_arg2)
        (arg m c main_arg9) (arg m c main_arg10) (arg m c main_arg11) (arg m c main_arg12) (arg m c main_arg13)
        (arg m c main_arg14) (arg m c main_arg15) (arg m c main_arg16) (arg m c main_arg17) (arg m c main_arg18) :=
  w14_v70 m ρ c

end Cert.Proof.KernelValue

end
-- ==== Proof.RefValue.lean ====
/- The reference's result: its loop is the recurrent cell run twenty times, and what follows the loop is the network. -/
module

public import proofs.«01_k».proof.Proof.Spec
public import proofs.«01_k».proof.Proof.Gen.ReferenceIdeal.Run
public import Idealize.ShloMosaic.Lib.Pointwise
public import Idealize.ShloMosaic.Lib.DynamicIndex
public import Idealize.ShloMosaic.Lib.WordCmp

@[expose] public section

set_option maxRecDepth 16384

noncomputable section

namespace Cert.Proof.RefValue

open Cert.ReferenceIdeal Cert.ReferenceIdeal.Gen Cert.ReferenceIdeal.Value
open Idealize.ShloMosaic Idealize.ShloMosaic.TcCoe Idealize.SL.Sem Idealize.ShloMosaic.StableHlo

variable (m : (ℓ : Loc nD τ sig) → Buf (Elt Ideal) ℓ) (c : Dev nD)

/-- An argument's contents at the launch. -/
abbrev arg (b : Ref sig .tc) : Buf (Elt Ideal) ((c : Thread nD τ).loc b) := m ((c.tc : Thread nD τ).loc b)

/-- The slice that step `k` takes of the transposed sequences is their column `k`. -/
theorem slice_eq (X : FVec Ideal S10000x20x128 .f32) (k : ℕ) (hk : k < 20) (start : Fin 3 → Int)
    (hs : ∀ a, start a = ((![k, 0, 0] : Fin 3 → ℕ) a : Int)) :
    shapeCast S10000x128 (Host.dynamicSlice S1x10000x128
      (transpose S20x10000x128 [1, 0, 2] X transposes_S10000x20x128_S20x10000x128_1_0_2) start
      sliceFits_S20x10000x128_S1x10000x128) shapeCasts_S1x10000x128_S10000x128 = Spec.column X k := by
  have hoff : S20x10000x128.Slices ![k, 0, 0] S1x10000x128 :=
    ⟨rfl, fun a => by
      match a with
      | 0 => show k + 1 ≤ 20; omega
      | 1 => exact (by decide : 0 + 10000 ≤ 10000)
      | 2 => exact (by decide : 0 + 128 ≤ 128)⟩
  rw [Host.dynamicSlice_eq_extractStridedSlice (s := S20x10000x128) S1x10000x128
    (transpose S20x10000x128 [1, 0, 2] X transposes_S10000x20x128_S20x10000x128_1_0_2) start ![k, 0, 0] _ hoff hs]
  funext i
  idx_vars i
  pointwise [Spec.column]
  have e : (⟨k, hk⟩ : Fin 20) = Fin.ofNat 20 k := Fin.ext (Nat.mod_eq_of_lt hk).symm
  exact congrArg (fun n => X (ix3 i0 n i1)) e

/-- The state the loop starts from. -/
theorem entry :
    entryContents preI m c (Proc.devRef .tc main_v3_0)
      = transpose S20x10000x128 [1, 0, 2] (arg m c main_arg0) transposes_S10000x20x128_S20x10000x128_1_0_2
    ∧ entryContents preI m c (Proc.devRef .tc main_v3_1) = arg m c main_arg3
    ∧ entryContents preI m c (Proc.devRef .tc main_v3_2) = arg m c main_arg4
    ∧ entryContents preI m c (Proc.devRef .tc main_v3_3) = arg m c main_arg5
    ∧ entryContents preI m c (Proc.devRef .tc main_v3_4) = arg m c main_arg6
    ∧ entryContents preI m c (Proc.devRef .tc main_v3_6)
      = broadcastInDim S10000x128 ![] bcast_S_S10000x128 (constant (F := Ideal) S_ .f32 0x00000000#32)
    ∧ entryContents preI m c (Proc.devRef .tc main_v3_7)
      = broadcastInDim S10000x128 ![] bcast_S_S10000x128 (constant (F := Ideal) S_ .f32 0x00000000#32) := by
  refine ⟨?_, ?_, ?_, ?_, ?_, ?_, ?_⟩ <;>
  · simp only [entryContents, afterL_cons, afterL_nil]
    after_reads_simp
    rfl

/-- The zero block. -/
theorem zero_block : (broadcastInDim S10000x128 ![] bcast_S_S10000x128 (constant S_ .f32 0x00000000#32)
    : FVec Ideal S10000x128 .f32) = fun _ => (0 : EReal) := by
  funext i
  idx_vars i
  pointwise

/-- After `k` trips: the loop's constants are as at its entry, the counter is `k`, and the two carried blocks are the
    recurrent cell's states. -/
theorem iter (k : ℕ) (hk : k ≤ 20) :
    let V := STEP^[k] (entryContents preI m c)
    let L := Spec.lstm (arg m c main_arg0) (arg m c main_arg3) (arg m c main_arg4) (arg m c main_arg5) (arg m c main_arg6) k
    V (Proc.devRef .tc main_v3_0)
      = transpose S20x10000x128 [1, 0, 2] (arg m c main_arg0) transposes_S10000x20x128_S20x10000x128_1_0_2
    ∧ V (Proc.devRef .tc main_v3_1) = arg m c main_arg3
    ∧ V (Proc.devRef .tc main_v3_2) = arg m c main_arg4
    ∧ V (Proc.devRef .tc main_v3_3) = arg m c main_arg5
    ∧ V (Proc.devRef .tc main_v3_4) = arg m c main_arg6
    ∧ V (Proc.devRef .tc main_v3_5) = (fun _ => BitVec.ofNat 32 k)
    ∧ V (Proc.devRef .tc main_v3_6) = L.1
    ∧ V (Proc.devRef .tc main_v3_7) = L.2 := by
  induction k with
  | zero =>
    obtain ⟨h0, h1, h2, h3, h4, h6, h7⟩ := entry m c
    exact ⟨h0, h1, h2, h3, h4, ctr_entry m c, h6.trans zero_block, h7.trans zero_block⟩
  | succ k ih =>
    obtain ⟨h0, h1, h2, h3, h4, h5, h6, h7⟩ := ih (by omega)
    simp only [Function.iterate_succ_apply']
    generalize STEP^[k] (entryContents preI m c) = V at *
    have hz : res_main_while0b_v150 V
        = Spec.gates (Spec.column (arg m c main_arg0) k) (arg m c main_arg3) (arg m c main_arg4) (arg m c main_arg5)
          (arg m c main_arg6) (Spec.lstm (arg m c main_arg0) (arg m c main_arg3) (arg m c main_arg4) (arg m c main_arg5)
          (arg m c main_arg6) k).1 := by
      unfold res_main_while0b_v150
      rw [h0, h1, h2, h3, h4, h5, h6, slice_eq (arg m c main_arg0) k (by omega)]
      · rfl
      · intro a
        match a with
        | 0 => exact toInt_ofNat_of_lt (by omega)
        | 1 => rfl
        | 2 => rfl
    have hc : res_main_while0b_v170 V = Spec.cell (res_main_while0b_v150 V)
        (Spec.lstm (arg m c main_arg0) (arg m c main_arg3) (arg m c main_arg4) (arg m c main_arg5)
          (arg m c main_arg6) k).2 := by
      unfold res_main_while0b_v170
      rw [h7]; rfl
    refine ⟨(STEP_main_v3_0 V).trans h0, (STEP_main_v3_1 V).trans h1, (STEP_main_v3_2 V).trans h2,
      (STEP_main_v3_3 V).trans h3, (STEP_main_v3_4 V).trans h4, (STEP_main_v3_5 V).trans ?_,
      (STEP_main_v3_6 V).trans ?_, (STEP_main_v3_7 V).trans ?_⟩
    · unfold step_main_v3_5
      rw [h5]
      funext i
      exact (BitVec.ofNat_add k 1).symm
    · unfold step_main_v3_6
      rw [hc, hz]; rfl
    · unfold step_main_v3_7
      rw [hc, hz]; rfl

/-- What follows the loop is the network on the final hidden state and the contents' encoding. -/
theorem tail (V : Valuation τ sig (Elt Ideal)) :
    out_main_v138 V = Spec.network (V (Proc.devRef .tc main_v3_6))
      (Spec.encode (V (Proc.devRef .tc main_arg1)) (V (Proc.devRef .tc main_arg7)) (V (Proc.devRef .tc main_arg8)))
      (V (Proc.devRef .tc main_arg2)) (V (Proc.devRef .tc main_arg9)) (V (Proc.devRef .tc main_arg10))
      (V (Proc.devRef .tc main_arg11)) (V (Proc.devRef .tc main_arg12)) (V (Proc.devRef .tc main_arg13))
      (V (Proc.devRef .tc main_arg14)) (V (Proc.devRef .tc main_arg15)) (V (Proc.devRef .tc main_arg16))
      (V (Proc.devRef .tc main_arg17)) (V (Proc.devRef .tc main_arg18)) := by
  unfold out_main_v138
  rfl

/-- The reference's result over its arguments. -/
theorem result :
    out_main_v138 (STEP^[20] (entryContents preI m c))
      = Spec.network (Spec.lstm (arg m c main_arg0) (arg m c main_arg3) (arg m c main_arg4) (arg m c main_arg5)
          (arg m c main_arg6) 20).1
        (Spec.encode (arg m c main_arg1) (arg m c main_arg7) (arg m c main_arg8)) (arg m c main_arg2)
        (arg m c main_arg9) (arg m c main_arg10) (arg m c main_arg11) (arg m c main_arg12) (arg m c main_arg13)
        (arg m c main_arg14) (arg m c main_arg15) (arg m c main_arg16) (arg m c main_arg17) (arg m c main_arg18) := by
  rw [tail, (iter m c 20 le_rfl).2.2.2.2.2.2.1, iter_main_arg1, iter_main_arg2, iter_main_arg7, iter_main_arg8,
    iter_main_arg9, iter_main_arg10, iter_main_arg11, iter_main_arg12, iter_main_arg13, iter_main_arg14,
    iter_main_arg15, iter_main_arg16, iter_main_arg17, iter_main_arg18]

end Cert.Proof.RefValue

end
-- ==== Proof.Algebraic.lean ====
/- The value claim: the kernel's result and the reference's are the same function of their arguments, at exact arithmetic. -/
module

public import proofs.«01_k».proof.Defs
public import proofs.«01_k».proof.Proof.KernelRun
public import proofs.«01_k».proof.Proof.KernelValue
public import proofs.«01_k».proof.Proof.RefValue
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel's run: the result is the last boundary's, and every argument is unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v70)
          = Cert.KernelIdeal.Gen.W14 m g c (Proc.devRef .tc Cert.KernelIdeal.main_v70)
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
          = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3)
          = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4)
          = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5)
          = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6)
          = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7)
          = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8)
          = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9)
          = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10)
          = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11)
          = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12)
          = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13)
          = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14)
          = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15)
          = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16)
          = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17)
          = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18)
          = m ((c.tc : Thread Cert.KernelIdeal.nD Cert.KernelIdeal.τ).loc Cert.KernelIdeal.main_arg18)) :=
  (θ_run Cert.KernelIdeal.defs _ _).mono (fun r h c =>
    ⟨h c _ (Cert.KernelIdeal.Gen.mem_uc Cert.KernelIdeal.main_v70 (by decide)),
      (h c _ (Cert.KernelIdeal.Gen.mem_uc Cert.KernelIdeal.main_arg0 (by decide))).trans (Cert.KernelIdeal.Gen.W14_main_arg0 m g c),
      (h c _ (Cert.KernelIdeal.Gen.mem_uc Cert.KernelIdeal.main_arg1 (by decide))).trans (Cert.KernelIdeal.Gen.W14_main_arg1 m g c),
      (h c _ (Cert.KernelIdeal.Gen.mem_uc Cert.KernelIdeal.main_arg2 (by decide))).trans (Cert.KernelIdeal.Gen.W14_main_arg2 m g c),
      (h c _ (Cert.KernelIdeal.Gen.mem_uc Cert.KernelIdeal.main_arg3 (by decide))).trans (Cert.KernelIdeal.Gen.W14_main_arg3 m g c),
      (h c _ (Cert.KernelIdeal.Gen.mem_uc Cert.KernelIdeal.main_arg4 (by decide))).trans (Cert.KernelIdeal.Gen.W14_main_arg4 m g c),
      (h c _ (Cert.KernelIdeal.Gen.mem_uc Cert.KernelIdeal.main_arg5 (by decide))).trans (Cert.KernelIdeal.Gen.W14_main_arg5 m g c),
      (h c _ (Cert.KernelIdeal.Gen.mem_uc Cert.KernelIdeal.main_arg6 (by decide))).trans (Cert.KernelIdeal.Gen.W14_main_arg6 m g c),
      (h c _ (Cert.KernelIdeal.Gen.mem_uc Cert.KernelIdeal.main_arg7 (by decide))).trans (Cert.KernelIdeal.Gen.W14_main_arg7 m g c),
      (h c _ (Cert.KernelIdeal.Gen.mem_uc Cert.KernelIdeal.main_arg8 (by decide))).trans (Cert.KernelIdeal.Gen.W14_main_arg8 m g c),
      (h c _ (Cert.KernelIdeal.Gen.mem_uc Cert.KernelIdeal.main_arg9 (by decide))).trans (Cert.KernelIdeal.Gen.W14_main_arg9 m g c),
      (h c _ (Cert.KernelIdeal.Gen.mem_uc Cert.KernelIdeal.main_arg10 (by decide))).trans (Cert.KernelIdeal.Gen.W14_main_arg10 m g c),
      (h c _ (Cert.KernelIdeal.Gen.mem_uc Cert.KernelIdeal.main_arg11 (by decide))).trans (Cert.KernelIdeal.Gen.W14_main_arg11 m g c),
      (h c _ (Cert.KernelIdeal.Gen.mem_uc Cert.KernelIdeal.main_arg12 (by decide))).trans (Cert.KernelIdeal.Gen.W14_main_arg12 m g c),
      (h c _ (Cert.KernelIdeal.Gen.mem_uc Cert.KernelIdeal.main_arg13 (by decide))).trans (Cert.KernelIdeal.Gen.W14_main_arg13 m g c),
      (h c _ (Cert.KernelIdeal.Gen.mem_uc Cert.KernelIdeal.main_arg14 (by decide))).trans (Cert.KernelIdeal.Gen.W14_main_arg14 m g c),
      (h c _ (Cert.KernelIdeal.Gen.mem_uc Cert.KernelIdeal.main_arg15 (by decide))).trans (Cert.KernelIdeal.Gen.W14_main_arg15 m g c),
      (h c _ (Cert.KernelIdeal.Gen.mem_uc Cert.KernelIdeal.main_arg16 (by decide))).trans (Cert.KernelIdeal.Gen.W14_main_arg16 m g c),
      (h c _ (Cert.KernelIdeal.Gen.mem_uc Cert.KernelIdeal.main_arg17 (by decide))).trans (Cert.KernelIdeal.Gen.W14_main_arg17 m g c),
      (h c _ (Cert.KernelIdeal.Gen.mem_uc Cert.KernelIdeal.main_arg18 (by decide))).trans (Cert.KernelIdeal.Gen.W14_main_arg18 m g c)⟩)
    (KernelRun.run_fold m g)

/-- From arguments that agree, the kernel and the reference leave the same result. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => Cert.KernelIdeal.Gen.W14 m g c (Proc.devRef .tc Cert.KernelIdeal.main_v70), kernel_run m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4, h5, h6, h7, h8, h9, h10, h11, h12, h13, h14, h15, h16, h17, h18⟩ := hag c
  refine (RefValue.result m' c).trans (Eq.trans ?_ (KernelValue.result m g c).symm)
  simp only [RefValue.arg, KernelValue.arg]
  rw [h0, h1, h2, h3, h4, h5, h6, h7, h8, h9, h10, h11, h12, h13, h14, h15, h16, h17, h18]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.KernelRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims of the certificate: the three frames, the idealization and the value claim. -/
theorem claim : Cert.Claim := ⟨Cert.Kernel.Gen.facts, Cert.KernelIdeal.Gen.facts, Cert.ReferenceIdeal.Gen.facts, fun m ρ _ => Cert.Kernel.Gen.frame m ρ, fun m ρ _ => Cert.KernelIdeal.Gen.frame m ρ, frame_ri, trivial, algebraic⟩

end Cert.Proof

end
